-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S32x32x512 : Shape := ⟨3, ![32, 32, 512]⟩
abbrev S32 : Shape := ⟨1, ![32]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S32x32x512, .f32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_off1 (d0 : Dev nD) (c0_i32_12 : BitVec 32) : Fin 3 → Nat :=
  let c0_i32_15 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v18 : BitVec 32 := Scalar.addi v17 c0_i32_12
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_13 v2
  let c512_i32 : BitVec 32 := 512#32
  let v20 : BitVec 32 := Scalar.muli v19 c512_i32
  ![0, v18.toNat, v20.toNat]
def k0_dev3 (d0 : Dev nD) : Nat :=
  let c0_i32_20 : BitVec 32 := 0#32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_14 v2
  let c2_i32_19 : BitVec 32 := 2#32
  let v22 : BitVec 32 := Scalar.muli v21 c2_i32_19
  let v23 : BitVec 32 := Scalar.addi c0_i32_20 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v24 : BitVec 32 := Scalar.muli v5 c1_i32_21
  let v25 : BitVec 32 := Scalar.addi v23 v24
  v25.toNat
def k0_dev4 (d0 : Dev nD) : Nat :=
  let c0_i32_32 : BitVec 32 := 0#32
  let c1_i32_26 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v37 : BitVec 32 := Scalar.subi c1_i32_26 v2
  let c2_i32_31 : BitVec 32 := 2#32
  let v38 : BitVec 32 := Scalar.muli v37 c2_i32_31
  let v39 : BitVec 32 := Scalar.addi c0_i32_32 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v40 : BitVec 32 := Scalar.muli v5 c1_i32_33
  let v41 : BitVec 32 := Scalar.addi v39 v40
  v41.toNat
def k0_dev5 (d0 : Dev nD) : Nat :=
  let c0_i32_44 : BitVec 32 := 0#32
  let c1_i32_38 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v53 : BitVec 32 := Scalar.subi c1_i32_38 v2
  let c2_i32_43 : BitVec 32 := 2#32
  let v54 : BitVec 32 := Scalar.muli v53 c2_i32_43
  let v55 : BitVec 32 := Scalar.addi c0_i32_44 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v56 : BitVec 32 := Scalar.muli v5 c1_i32_45
  let v57 : BitVec 32 := Scalar.addi v55 v56
  v57.toNat
def k0_dev6 (d0 : Dev nD) : Nat :=
  let c0_i32_55 : BitVec 32 := 0#32
  let c1_i32_50 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v69 : BitVec 32 := Scalar.subi c1_i32_50 v2
  let c2_i32_54 : BitVec 32 := 2#32
  let v70 : BitVec 32 := Scalar.muli v69 c2_i32_54
  let v71 : BitVec 32 := Scalar.addi c0_i32_55 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v72 : BitVec 32 := Scalar.muli v5 c1_i32_56
  let v73 : BitVec 32 := Scalar.addi v71 v72
  v73.toNat
def k0_dev7 (d0 : Dev nD) : Nat :=
  let c0_i32_66 : BitVec 32 := 0#32
  let c1_i32_61 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v85 : BitVec 32 := Scalar.subi c1_i32_61 v2
  let c2_i32_65 : BitVec 32 := 2#32
  let v86 : BitVec 32 := Scalar.muli v85 c2_i32_65
  let v87 : BitVec 32 := Scalar.addi c0_i32_66 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v88 : BitVec 32 := Scalar.muli v5 c1_i32_67
  let v89 : BitVec 32 := Scalar.addi v87 v88
  v89.toNat
def k0_dev8 (d0 : Dev nD) : Nat :=
  let c0_i32_77 : BitVec 32 := 0#32
  let c1_i32_72 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v101 : BitVec 32 := Scalar.subi c1_i32_72 v2
  let c2_i32_76 : BitVec 32 := 2#32
  let v102 : BitVec 32 := Scalar.muli v101 c2_i32_76
  let v103 : BitVec 32 := Scalar.addi c0_i32_77 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v104 : BitVec 32 := Scalar.muli v5 c1_i32_78
  let v105 : BitVec 32 := Scalar.addi v103 v104
  v105.toNat
def k0_dev9 (d0 : Dev nD) : Nat :=
  let c0_i32_88 : BitVec 32 := 0#32
  let c1_i32_83 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v117 : BitVec 32 := Scalar.subi c1_i32_83 v2
  let c2_i32_87 : BitVec 32 := 2#32
  let v118 : BitVec 32 := Scalar.muli v117 c2_i32_87
  let v119 : BitVec 32 := Scalar.addi c0_i32_88 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v120 : BitVec 32 := Scalar.muli v5 c1_i32_89
  let v121 : BitVec 32 := Scalar.addi v119 v120
  v121.toNat
def k0_dev10 (d0 : Dev nD) : Nat :=
  let c0_i32_99 : BitVec 32 := 0#32
  let c1_i32_94 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v133 : BitVec 32 := Scalar.subi c1_i32_94 v2
  let c2_i32_98 : BitVec 32 := 2#32
  let v134 : BitVec 32 := Scalar.muli v133 c2_i32_98
  let v135 : BitVec 32 := Scalar.addi c0_i32_99 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v136 : BitVec 32 := Scalar.muli v5 c1_i32_100
  let v137 : BitVec 32 := Scalar.addi v135 v136
  v137.toNat
def k0_dev11 (d0 : Dev nD) : Nat :=
  let c0_i32_110 : BitVec 32 := 0#32
  let c1_i32_105 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v149 : BitVec 32 := Scalar.subi c1_i32_105 v2
  let c2_i32_109 : BitVec 32 := 2#32
  let v150 : BitVec 32 := Scalar.muli v149 c2_i32_109
  let v151 : BitVec 32 := Scalar.addi c0_i32_110 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v152 : BitVec 32 := Scalar.muli v5 c1_i32_111
  let v153 : BitVec 32 := Scalar.addi v151 v152
  v153.toNat
def k0_dev12 (d0 : Dev nD) : Nat :=
  let c0_i32_121 : BitVec 32 := 0#32
  let c1_i32_116 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v165 : BitVec 32 := Scalar.subi c1_i32_116 v2
  let c2_i32_120 : BitVec 32 := 2#32
  let v166 : BitVec 32 := Scalar.muli v165 c2_i32_120
  let v167 : BitVec 32 := Scalar.addi c0_i32_121 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v168 : BitVec 32 := Scalar.muli v5 c1_i32_122
  let v169 : BitVec 32 := Scalar.addi v167 v168
  v169.toNat
def k0_dev13 (d0 : Dev nD) : Nat :=
  let c0_i32_132 : BitVec 32 := 0#32
  let c1_i32_127 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v181 : BitVec 32 := Scalar.subi c1_i32_127 v2
  let c2_i32_131 : BitVec 32 := 2#32
  let v182 : BitVec 32 := Scalar.muli v181 c2_i32_131
  let v183 : BitVec 32 := Scalar.addi c0_i32_132 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v184 : BitVec 32 := Scalar.muli v5 c1_i32_133
  let v185 : BitVec 32 := Scalar.addi v183 v184
  v185.toNat
def k0_dev14 (d0 : Dev nD) : Nat :=
  let c0_i32_143 : BitVec 32 := 0#32
  let c1_i32_138 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v197 : BitVec 32 := Scalar.subi c1_i32_138 v2
  let c2_i32_142 : BitVec 32 := 2#32
  let v198 : BitVec 32 := Scalar.muli v197 c2_i32_142
  let v199 : BitVec 32 := Scalar.addi c0_i32_143 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_144 : BitVec 32 := 1#32
  let v200 : BitVec 32 := Scalar.muli v5 c1_i32_144
  let v201 : BitVec 32 := Scalar.addi v199 v200
  v201.toNat
def k0_dev15 (d0 : Dev nD) : Nat :=
  let c0_i32_154 : BitVec 32 := 0#32
  let c1_i32_149 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v213 : BitVec 32 := Scalar.subi c1_i32_149 v2
  let c2_i32_153 : BitVec 32 := 2#32
  let v214 : BitVec 32 := Scalar.muli v213 c2_i32_153
  let v215 : BitVec 32 := Scalar.addi c0_i32_154 v214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v216 : BitVec 32 := Scalar.muli v5 c1_i32_155
  let v217 : BitVec 32 := Scalar.addi v215 v216
  v217.toNat
def k0_dev16 (d0 : Dev nD) : Nat :=
  let c0_i32_165 : BitVec 32 := 0#32
  let c1_i32_160 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v229 : BitVec 32 := Scalar.subi c1_i32_160 v2
  let c2_i32_164 : BitVec 32 := 2#32
  let v230 : BitVec 32 := Scalar.muli v229 c2_i32_164
  let v231 : BitVec 32 := Scalar.addi c0_i32_165 v230
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v232 : BitVec 32 := Scalar.muli v5 c1_i32_166
  let v233 : BitVec 32 := Scalar.addi v231 v232
  v233.toNat
def k0_dev17 (d0 : Dev nD) : Nat :=
  let c0_i32_176 : BitVec 32 := 0#32
  let c1_i32_171 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v245 : BitVec 32 := Scalar.subi c1_i32_171 v2
  let c2_i32_175 : BitVec 32 := 2#32
  let v246 : BitVec 32 := Scalar.muli v245 c2_i32_175
  let v247 : BitVec 32 := Scalar.addi c0_i32_176 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_177 : BitVec 32 := 1#32
  let v248 : BitVec 32 := Scalar.muli v5 c1_i32_177
  let v249 : BitVec 32 := Scalar.addi v247 v248
  v249.toNat
def k0_dev18 (d0 : Dev nD) : Nat :=
  let c0_i32_187 : BitVec 32 := 0#32
  let c1_i32_182 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v261 : BitVec 32 := Scalar.subi c1_i32_182 v2
  let c2_i32_186 : BitVec 32 := 2#32
  let v262 : BitVec 32 := Scalar.muli v261 c2_i32_186
  let v263 : BitVec 32 := Scalar.addi c0_i32_187 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v264 : BitVec 32 := Scalar.muli v5 c1_i32_188
  let v265 : BitVec 32 := Scalar.addi v263 v264
  v265.toNat
def k0_dev19 (d0 : Dev nD) : Nat :=
  let c0_i32_199 : BitVec 32 := 0#32
  let c1_i32_194 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v277 : BitVec 32 := Scalar.subi c1_i32_194 v2
  let c2_i32_198 : BitVec 32 := 2#32
  let v278 : BitVec 32 := Scalar.muli v277 c2_i32_198
  let v279 : BitVec 32 := Scalar.addi c0_i32_199 v278
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v280 : BitVec 32 := Scalar.muli v5 c1_i32_200
  let v281 : BitVec 32 := Scalar.addi v279 v280
  v281.toNat
def k0_dev20 (d0 : Dev nD) : Nat :=
  let c0_i32_210 : BitVec 32 := 0#32
  let c1_i32_205 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v293 : BitVec 32 := Scalar.subi c1_i32_205 v2
  let c2_i32_209 : BitVec 32 := 2#32
  let v294 : BitVec 32 := Scalar.muli v293 c2_i32_209
  let v295 : BitVec 32 := Scalar.addi c0_i32_210 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_211 : BitVec 32 := 1#32
  let v296 : BitVec 32 := Scalar.muli v5 c1_i32_211
  let v297 : BitVec 32 := Scalar.addi v295 v296
  v297.toNat
def k0_dev21 (d0 : Dev nD) : Nat :=
  let c0_i32_221 : BitVec 32 := 0#32
  let c1_i32_216 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v309 : BitVec 32 := Scalar.subi c1_i32_216 v2
  let c2_i32_220 : BitVec 32 := 2#32
  let v310 : BitVec 32 := Scalar.muli v309 c2_i32_220
  let v311 : BitVec 32 := Scalar.addi c0_i32_221 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v312 : BitVec 32 := Scalar.muli v5 c1_i32_222
  let v313 : BitVec 32 := Scalar.addi v311 v312
  v313.toNat
def k0_dev22 (d0 : Dev nD) : Nat :=
  let c0_i32_232 : BitVec 32 := 0#32
  let c1_i32_227 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v325 : BitVec 32 := Scalar.subi c1_i32_227 v2
  let c2_i32_231 : BitVec 32 := 2#32
  let v326 : BitVec 32 := Scalar.muli v325 c2_i32_231
  let v327 : BitVec 32 := Scalar.addi c0_i32_232 v326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_233 : BitVec 32 := 1#32
  let v328 : BitVec 32 := Scalar.muli v5 c1_i32_233
  let v329 : BitVec 32 := Scalar.addi v327 v328
  v329.toNat
def k0_dev23 (d0 : Dev nD) : Nat :=
  let c0_i32_243 : BitVec 32 := 0#32
  let c1_i32_238 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v341 : BitVec 32 := Scalar.subi c1_i32_238 v2
  let c2_i32_242 : BitVec 32 := 2#32
  let v342 : BitVec 32 := Scalar.muli v341 c2_i32_242
  let v343 : BitVec 32 := Scalar.addi c0_i32_243 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v344 : BitVec 32 := Scalar.muli v5 c1_i32_244
  let v345 : BitVec 32 := Scalar.addi v343 v344
  v345.toNat
def k0_dev24 (d0 : Dev nD) : Nat :=
  let c0_i32_254 : BitVec 32 := 0#32
  let c1_i32_249 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v357 : BitVec 32 := Scalar.subi c1_i32_249 v2
  let c2_i32_253 : BitVec 32 := 2#32
  let v358 : BitVec 32 := Scalar.muli v357 c2_i32_253
  let v359 : BitVec 32 := Scalar.addi c0_i32_254 v358
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_255 : BitVec 32 := 1#32
  let v360 : BitVec 32 := Scalar.muli v5 c1_i32_255
  let v361 : BitVec 32 := Scalar.addi v359 v360
  v361.toNat
def k0_dev25 (d0 : Dev nD) : Nat :=
  let c0_i32_265 : BitVec 32 := 0#32
  let c1_i32_260 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v373 : BitVec 32 := Scalar.subi c1_i32_260 v2
  let c2_i32_264 : BitVec 32 := 2#32
  let v374 : BitVec 32 := Scalar.muli v373 c2_i32_264
  let v375 : BitVec 32 := Scalar.addi c0_i32_265 v374
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_266 : BitVec 32 := 1#32
  let v376 : BitVec 32 := Scalar.muli v5 c1_i32_266
  let v377 : BitVec 32 := Scalar.addi v375 v376
  v377.toNat
def k0_dev26 (d0 : Dev nD) : Nat :=
  let c0_i32_276 : BitVec 32 := 0#32
  let c1_i32_271 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v389 : BitVec 32 := Scalar.subi c1_i32_271 v2
  let c2_i32_275 : BitVec 32 := 2#32
  let v390 : BitVec 32 := Scalar.muli v389 c2_i32_275
  let v391 : BitVec 32 := Scalar.addi c0_i32_276 v390
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_277 : BitVec 32 := 1#32
  let v392 : BitVec 32 := Scalar.muli v5 c1_i32_277
  let v393 : BitVec 32 := Scalar.addi v391 v392
  v393.toNat
def k0_dev27 (d0 : Dev nD) : Nat :=
  let c0_i32_287 : BitVec 32 := 0#32
  let c1_i32_282 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v405 : BitVec 32 := Scalar.subi c1_i32_282 v2
  let c2_i32_286 : BitVec 32 := 2#32
  let v406 : BitVec 32 := Scalar.muli v405 c2_i32_286
  let v407 : BitVec 32 := Scalar.addi c0_i32_287 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_288 : BitVec 32 := 1#32
  let v408 : BitVec 32 := Scalar.muli v5 c1_i32_288
  let v409 : BitVec 32 := Scalar.addi v407 v408
  v409.toNat
def k0_dev28 (d0 : Dev nD) : Nat :=
  let c0_i32_298 : BitVec 32 := 0#32
  let c1_i32_293 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v421 : BitVec 32 := Scalar.subi c1_i32_293 v2
  let c2_i32_297 : BitVec 32 := 2#32
  let v422 : BitVec 32 := Scalar.muli v421 c2_i32_297
  let v423 : BitVec 32 := Scalar.addi c0_i32_298 v422
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_299 : BitVec 32 := 1#32
  let v424 : BitVec 32 := Scalar.muli v5 c1_i32_299
  let v425 : BitVec 32 := Scalar.addi v423 v424
  v425.toNat
def k0_dev29 (d0 : Dev nD) : Nat :=
  let c0_i32_309 : BitVec 32 := 0#32
  let c1_i32_304 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v437 : BitVec 32 := Scalar.subi c1_i32_304 v2
  let c2_i32_308 : BitVec 32 := 2#32
  let v438 : BitVec 32 := Scalar.muli v437 c2_i32_308
  let v439 : BitVec 32 := Scalar.addi c0_i32_309 v438
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v440 : BitVec 32 := Scalar.muli v5 c1_i32_310
  let v441 : BitVec 32 := Scalar.addi v439 v440
  v441.toNat
def k0_dev30 (d0 : Dev nD) : Nat :=
  let c0_i32_320 : BitVec 32 := 0#32
  let c1_i32_315 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v453 : BitVec 32 := Scalar.subi c1_i32_315 v2
  let c2_i32_319 : BitVec 32 := 2#32
  let v454 : BitVec 32 := Scalar.muli v453 c2_i32_319
  let v455 : BitVec 32 := Scalar.addi c0_i32_320 v454
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_321 : BitVec 32 := 1#32
  let v456 : BitVec 32 := Scalar.muli v5 c1_i32_321
  let v457 : BitVec 32 := Scalar.addi v455 v456
  v457.toNat
def k0_dev31 (d0 : Dev nD) : Nat :=
  let c0_i32_331 : BitVec 32 := 0#32
  let c1_i32_326 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v469 : BitVec 32 := Scalar.subi c1_i32_326 v2
  let c2_i32_330 : BitVec 32 := 2#32
  let v470 : BitVec 32 := Scalar.muli v469 c2_i32_330
  let v471 : BitVec 32 := Scalar.addi c0_i32_331 v470
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v472 : BitVec 32 := Scalar.muli v5 c1_i32_332
  let v473 : BitVec 32 := Scalar.addi v471 v472
  v473.toNat
def k0_dev32 (d0 : Dev nD) : Nat :=
  let c0_i32_342 : BitVec 32 := 0#32
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v485 : BitVec 32 := Scalar.subi c1_i32_337 v2
  let c2_i32_341 : BitVec 32 := 2#32
  let v486 : BitVec 32 := Scalar.muli v485 c2_i32_341
  let v487 : BitVec 32 := Scalar.addi c0_i32_342 v486
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_343 : BitVec 32 := 1#32
  let v488 : BitVec 32 := Scalar.muli v5 c1_i32_343
  let v489 : BitVec 32 := Scalar.addi v487 v488
  v489.toNat
def k0_dev33 (d0 : Dev nD) : Nat :=
  let c0_i32_353 : BitVec 32 := 0#32
  let c1_i32_348 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v501 : BitVec 32 := Scalar.subi c1_i32_348 v2
  let c2_i32_352 : BitVec 32 := 2#32
  let v502 : BitVec 32 := Scalar.muli v501 c2_i32_352
  let v503 : BitVec 32 := Scalar.addi c0_i32_353 v502
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v504 : BitVec 32 := Scalar.muli v5 c1_i32_354
  let v505 : BitVec 32 := Scalar.addi v503 v504
  v505.toNat
def k0_dev34 (d0 : Dev nD) : Nat :=
  let c0_i32_364 : BitVec 32 := 0#32
  let c1_i32_359 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v517 : BitVec 32 := Scalar.subi c1_i32_359 v2
  let c2_i32_363 : BitVec 32 := 2#32
  let v518 : BitVec 32 := Scalar.muli v517 c2_i32_363
  let v519 : BitVec 32 := Scalar.addi c0_i32_364 v518
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_365 : BitVec 32 := 1#32
  let v520 : BitVec 32 := Scalar.muli v5 c1_i32_365
  let v521 : BitVec 32 := Scalar.addi v519 v520
  v521.toNat
def k0_off2 (d0 : Dev nD) (c0_i32_368 : BitVec 32) : Fin 3 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v530 : BitVec 32 := Scalar.addi v17 c0_i32_368
  let v542 : Index := Scalar.indexCast v530
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_378 : BitVec 32 := 512#32
  let v541 : BitVec 32 := Scalar.muli v2 c512_i32_378
  let v543 : Index := Scalar.indexCast v541
  ![0, v542.toNat, v543.toNat]
def k0_off3 (d0 : Dev nD) (c0_i32_368 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v530 : BitVec 32 := Scalar.addi v17 c0_i32_368
  let v549 : Index := Scalar.indexCast v530
  let c0_382 : Index := 0#32
  ![v549.toNat, 0]
def k0_off4 (d0 : Dev nD) (c0_i32_368 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v530 : BitVec 32 := Scalar.addi v17 c0_i32_368
  let c0_i32_389 : BitVec 32 := 0#32
  ![v530.toNat, 0]
def k0_dev35 (d0 : Dev nD) : Nat :=
  let c0_i32_387 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_386 : BitVec 32 := 2#32
  let v552 : BitVec 32 := Scalar.muli v2 c2_i32_386
  let v553 : BitVec 32 := Scalar.addi c0_i32_387 v552
  let c1_i32_383 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v551 : BitVec 32 := Scalar.subi c1_i32_383 v5
  let c1_i32_388 : BitVec 32 := 1#32
  let v554 : BitVec 32 := Scalar.muli v551 c1_i32_388
  let v555 : BitVec 32 := Scalar.addi v553 v554
  v555.toNat
def k0_dev36 (d0 : Dev nD) : Nat :=
  let c0_i32_410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_409 : BitVec 32 := 2#32
  let v584 : BitVec 32 := Scalar.muli v2 c2_i32_409
  let v585 : BitVec 32 := Scalar.addi c0_i32_410 v584
  let c1_i32_406 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v583 : BitVec 32 := Scalar.subi c1_i32_406 v5
  let c1_i32_411 : BitVec 32 := 1#32
  let v586 : BitVec 32 := Scalar.muli v583 c1_i32_411
  let v587 : BitVec 32 := Scalar.addi v585 v586
  v587.toNat
def k0_dev37 (d0 : Dev nD) : Nat :=
  let c0_i32_433 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_432 : BitVec 32 := 2#32
  let v616 : BitVec 32 := Scalar.muli v2 c2_i32_432
  let v617 : BitVec 32 := Scalar.addi c0_i32_433 v616
  let c1_i32_429 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v615 : BitVec 32 := Scalar.subi c1_i32_429 v5
  let c1_i32_434 : BitVec 32 := 1#32
  let v618 : BitVec 32 := Scalar.muli v615 c1_i32_434
  let v619 : BitVec 32 := Scalar.addi v617 v618
  v619.toNat
def k0_dev38 (d0 : Dev nD) : Nat :=
  let c0_i32_456 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_455 : BitVec 32 := 2#32
  let v648 : BitVec 32 := Scalar.muli v2 c2_i32_455
  let v649 : BitVec 32 := Scalar.addi c0_i32_456 v648
  let c1_i32_452 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v647 : BitVec 32 := Scalar.subi c1_i32_452 v5
  let c1_i32_457 : BitVec 32 := 1#32
  let v650 : BitVec 32 := Scalar.muli v647 c1_i32_457
  let v651 : BitVec 32 := Scalar.addi v649 v650
  v651.toNat
def k0_dev39 (d0 : Dev nD) : Nat :=
  let c0_i32_479 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_478 : BitVec 32 := 2#32
  let v680 : BitVec 32 := Scalar.muli v2 c2_i32_478
  let v681 : BitVec 32 := Scalar.addi c0_i32_479 v680
  let c1_i32_475 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v679 : BitVec 32 := Scalar.subi c1_i32_475 v5
  let c1_i32_480 : BitVec 32 := 1#32
  let v682 : BitVec 32 := Scalar.muli v679 c1_i32_480
  let v683 : BitVec 32 := Scalar.addi v681 v682
  v683.toNat
def k0_dev40 (d0 : Dev nD) : Nat :=
  let c0_i32_502 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_501 : BitVec 32 := 2#32
  let v712 : BitVec 32 := Scalar.muli v2 c2_i32_501
  let v713 : BitVec 32 := Scalar.addi c0_i32_502 v712
  let c1_i32_498 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v711 : BitVec 32 := Scalar.subi c1_i32_498 v5
  let c1_i32_503 : BitVec 32 := 1#32
  let v714 : BitVec 32 := Scalar.muli v711 c1_i32_503
  let v715 : BitVec 32 := Scalar.addi v713 v714
  v715.toNat
def k0_dev41 (d0 : Dev nD) : Nat :=
  let c0_i32_525 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_524 : BitVec 32 := 2#32
  let v744 : BitVec 32 := Scalar.muli v2 c2_i32_524
  let v745 : BitVec 32 := Scalar.addi c0_i32_525 v744
  let c1_i32_521 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v743 : BitVec 32 := Scalar.subi c1_i32_521 v5
  let c1_i32_526 : BitVec 32 := 1#32
  let v746 : BitVec 32 := Scalar.muli v743 c1_i32_526
  let v747 : BitVec 32 := Scalar.addi v745 v746
  v747.toNat
def k0_dev42 (d0 : Dev nD) : Nat :=
  let c0_i32_548 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_547 : BitVec 32 := 2#32
  let v776 : BitVec 32 := Scalar.muli v2 c2_i32_547
  let v777 : BitVec 32 := Scalar.addi c0_i32_548 v776
  let c1_i32_544 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v775 : BitVec 32 := Scalar.subi c1_i32_544 v5
  let c1_i32_549 : BitVec 32 := 1#32
  let v778 : BitVec 32 := Scalar.muli v775 c1_i32_549
  let v779 : BitVec 32 := Scalar.addi v777 v778
  v779.toNat
def k0_dev43 (d0 : Dev nD) : Nat :=
  let c0_i32_571 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_570 : BitVec 32 := 2#32
  let v808 : BitVec 32 := Scalar.muli v2 c2_i32_570
  let v809 : BitVec 32 := Scalar.addi c0_i32_571 v808
  let c1_i32_567 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v807 : BitVec 32 := Scalar.subi c1_i32_567 v5
  let c1_i32_572 : BitVec 32 := 1#32
  let v810 : BitVec 32 := Scalar.muli v807 c1_i32_572
  let v811 : BitVec 32 := Scalar.addi v809 v810
  v811.toNat
def k0_dev44 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v840 : BitVec 32 := Scalar.muli v2 c2_i32_593
  let v841 : BitVec 32 := Scalar.addi c0_i32_594 v840
  let c1_i32_590 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v839 : BitVec 32 := Scalar.subi c1_i32_590 v5
  let c1_i32_595 : BitVec 32 := 1#32
  let v842 : BitVec 32 := Scalar.muli v839 c1_i32_595
  let v843 : BitVec 32 := Scalar.addi v841 v842
  v843.toNat
def k0_dev45 (d0 : Dev nD) : Nat :=
  let c0_i32_617 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_616 : BitVec 32 := 2#32
  let v872 : BitVec 32 := Scalar.muli v2 c2_i32_616
  let v873 : BitVec 32 := Scalar.addi c0_i32_617 v872
  let c1_i32_613 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v871 : BitVec 32 := Scalar.subi c1_i32_613 v5
  let c1_i32_618 : BitVec 32 := 1#32
  let v874 : BitVec 32 := Scalar.muli v871 c1_i32_618
  let v875 : BitVec 32 := Scalar.addi v873 v874
  v875.toNat
def k0_dev46 (d0 : Dev nD) : Nat :=
  let c0_i32_640 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_639 : BitVec 32 := 2#32
  let v904 : BitVec 32 := Scalar.muli v2 c2_i32_639
  let v905 : BitVec 32 := Scalar.addi c0_i32_640 v904
  let c1_i32_636 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v903 : BitVec 32 := Scalar.subi c1_i32_636 v5
  let c1_i32_641 : BitVec 32 := 1#32
  let v906 : BitVec 32 := Scalar.muli v903 c1_i32_641
  let v907 : BitVec 32 := Scalar.addi v905 v906
  v907.toNat
def k0_dev47 (d0 : Dev nD) : Nat :=
  let c0_i32_663 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_662 : BitVec 32 := 2#32
  let v936 : BitVec 32 := Scalar.muli v2 c2_i32_662
  let v937 : BitVec 32 := Scalar.addi c0_i32_663 v936
  let c1_i32_659 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v935 : BitVec 32 := Scalar.subi c1_i32_659 v5
  let c1_i32_664 : BitVec 32 := 1#32
  let v938 : BitVec 32 := Scalar.muli v935 c1_i32_664
  let v939 : BitVec 32 := Scalar.addi v937 v938
  v939.toNat
def k0_dev48 (d0 : Dev nD) : Nat :=
  let c0_i32_686 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_685 : BitVec 32 := 2#32
  let v968 : BitVec 32 := Scalar.muli v2 c2_i32_685
  let v969 : BitVec 32 := Scalar.addi c0_i32_686 v968
  let c1_i32_682 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v967 : BitVec 32 := Scalar.subi c1_i32_682 v5
  let c1_i32_687 : BitVec 32 := 1#32
  let v970 : BitVec 32 := Scalar.muli v967 c1_i32_687
  let v971 : BitVec 32 := Scalar.addi v969 v970
  v971.toNat
def k0_dev49 (d0 : Dev nD) : Nat :=
  let c0_i32_709 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_708 : BitVec 32 := 2#32
  let v1000 : BitVec 32 := Scalar.muli v2 c2_i32_708
  let v1001 : BitVec 32 := Scalar.addi c0_i32_709 v1000
  let c1_i32_705 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v999 : BitVec 32 := Scalar.subi c1_i32_705 v5
  let c1_i32_710 : BitVec 32 := 1#32
  let v1002 : BitVec 32 := Scalar.muli v999 c1_i32_710
  let v1003 : BitVec 32 := Scalar.addi v1001 v1002
  v1003.toNat
def k0_dev50 (d0 : Dev nD) : Nat :=
  let c0_i32_732 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_731 : BitVec 32 := 2#32
  let v1032 : BitVec 32 := Scalar.muli v2 c2_i32_731
  let v1033 : BitVec 32 := Scalar.addi c0_i32_732 v1032
  let c1_i32_728 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1031 : BitVec 32 := Scalar.subi c1_i32_728 v5
  let c1_i32_733 : BitVec 32 := 1#32
  let v1034 : BitVec 32 := Scalar.muli v1031 c1_i32_733
  let v1035 : BitVec 32 := Scalar.addi v1033 v1034
  v1035.toNat
def k0_dev51 (d0 : Dev nD) : Nat :=
  let c0_i32_755 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_754 : BitVec 32 := 2#32
  let v1064 : BitVec 32 := Scalar.muli v2 c2_i32_754
  let v1065 : BitVec 32 := Scalar.addi c0_i32_755 v1064
  let c1_i32_751 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1063 : BitVec 32 := Scalar.subi c1_i32_751 v5
  let c1_i32_756 : BitVec 32 := 1#32
  let v1066 : BitVec 32 := Scalar.muli v1063 c1_i32_756
  let v1067 : BitVec 32 := Scalar.addi v1065 v1066
  v1067.toNat
def k0_dev52 (d0 : Dev nD) : Nat :=
  let c0_i32_778 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_777 : BitVec 32 := 2#32
  let v1096 : BitVec 32 := Scalar.muli v2 c2_i32_777
  let v1097 : BitVec 32 := Scalar.addi c0_i32_778 v1096
  let c1_i32_774 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1095 : BitVec 32 := Scalar.subi c1_i32_774 v5
  let c1_i32_779 : BitVec 32 := 1#32
  let v1098 : BitVec 32 := Scalar.muli v1095 c1_i32_779
  let v1099 : BitVec 32 := Scalar.addi v1097 v1098
  v1099.toNat
def k0_dev53 (d0 : Dev nD) : Nat :=
  let c0_i32_801 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_800 : BitVec 32 := 2#32
  let v1128 : BitVec 32 := Scalar.muli v2 c2_i32_800
  let v1129 : BitVec 32 := Scalar.addi c0_i32_801 v1128
  let c1_i32_797 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1127 : BitVec 32 := Scalar.subi c1_i32_797 v5
  let c1_i32_802 : BitVec 32 := 1#32
  let v1130 : BitVec 32 := Scalar.muli v1127 c1_i32_802
  let v1131 : BitVec 32 := Scalar.addi v1129 v1130
  v1131.toNat
def k0_dev54 (d0 : Dev nD) : Nat :=
  let c0_i32_824 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_823 : BitVec 32 := 2#32
  let v1160 : BitVec 32 := Scalar.muli v2 c2_i32_823
  let v1161 : BitVec 32 := Scalar.addi c0_i32_824 v1160
  let c1_i32_820 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1159 : BitVec 32 := Scalar.subi c1_i32_820 v5
  let c1_i32_825 : BitVec 32 := 1#32
  let v1162 : BitVec 32 := Scalar.muli v1159 c1_i32_825
  let v1163 : BitVec 32 := Scalar.addi v1161 v1162
  v1163.toNat
def k0_dev55 (d0 : Dev nD) : Nat :=
  let c0_i32_847 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_846 : BitVec 32 := 2#32
  let v1192 : BitVec 32 := Scalar.muli v2 c2_i32_846
  let v1193 : BitVec 32 := Scalar.addi c0_i32_847 v1192
  let c1_i32_843 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1191 : BitVec 32 := Scalar.subi c1_i32_843 v5
  let c1_i32_848 : BitVec 32 := 1#32
  let v1194 : BitVec 32 := Scalar.muli v1191 c1_i32_848
  let v1195 : BitVec 32 := Scalar.addi v1193 v1194
  v1195.toNat
def k0_dev56 (d0 : Dev nD) : Nat :=
  let c0_i32_870 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_869 : BitVec 32 := 2#32
  let v1224 : BitVec 32 := Scalar.muli v2 c2_i32_869
  let v1225 : BitVec 32 := Scalar.addi c0_i32_870 v1224
  let c1_i32_866 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1223 : BitVec 32 := Scalar.subi c1_i32_866 v5
  let c1_i32_871 : BitVec 32 := 1#32
  let v1226 : BitVec 32 := Scalar.muli v1223 c1_i32_871
  let v1227 : BitVec 32 := Scalar.addi v1225 v1226
  v1227.toNat
def k0_dev57 (d0 : Dev nD) : Nat :=
  let c0_i32_893 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_892 : BitVec 32 := 2#32
  let v1256 : BitVec 32 := Scalar.muli v2 c2_i32_892
  let v1257 : BitVec 32 := Scalar.addi c0_i32_893 v1256
  let c1_i32_889 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1255 : BitVec 32 := Scalar.subi c1_i32_889 v5
  let c1_i32_894 : BitVec 32 := 1#32
  let v1258 : BitVec 32 := Scalar.muli v1255 c1_i32_894
  let v1259 : BitVec 32 := Scalar.addi v1257 v1258
  v1259.toNat
def k0_dev58 (d0 : Dev nD) : Nat :=
  let c0_i32_916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_915 : BitVec 32 := 2#32
  let v1288 : BitVec 32 := Scalar.muli v2 c2_i32_915
  let v1289 : BitVec 32 := Scalar.addi c0_i32_916 v1288
  let c1_i32_912 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1287 : BitVec 32 := Scalar.subi c1_i32_912 v5
  let c1_i32_917 : BitVec 32 := 1#32
  let v1290 : BitVec 32 := Scalar.muli v1287 c1_i32_917
  let v1291 : BitVec 32 := Scalar.addi v1289 v1290
  v1291.toNat
def k0_dev59 (d0 : Dev nD) : Nat :=
  let c0_i32_939 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_938 : BitVec 32 := 2#32
  let v1320 : BitVec 32 := Scalar.muli v2 c2_i32_938
  let v1321 : BitVec 32 := Scalar.addi c0_i32_939 v1320
  let c1_i32_935 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1319 : BitVec 32 := Scalar.subi c1_i32_935 v5
  let c1_i32_940 : BitVec 32 := 1#32
  let v1322 : BitVec 32 := Scalar.muli v1319 c1_i32_940
  let v1323 : BitVec 32 := Scalar.addi v1321 v1322
  v1323.toNat
def k0_dev60 (d0 : Dev nD) : Nat :=
  let c0_i32_962 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_961 : BitVec 32 := 2#32
  let v1352 : BitVec 32 := Scalar.muli v2 c2_i32_961
  let v1353 : BitVec 32 := Scalar.addi c0_i32_962 v1352
  let c1_i32_958 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1351 : BitVec 32 := Scalar.subi c1_i32_958 v5
  let c1_i32_963 : BitVec 32 := 1#32
  let v1354 : BitVec 32 := Scalar.muli v1351 c1_i32_963
  let v1355 : BitVec 32 := Scalar.addi v1353 v1354
  v1355.toNat
def k0_dev61 (d0 : Dev nD) : Nat :=
  let c0_i32_985 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_984 : BitVec 32 := 2#32
  let v1384 : BitVec 32 := Scalar.muli v2 c2_i32_984
  let v1385 : BitVec 32 := Scalar.addi c0_i32_985 v1384
  let c1_i32_981 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1383 : BitVec 32 := Scalar.subi c1_i32_981 v5
  let c1_i32_986 : BitVec 32 := 1#32
  let v1386 : BitVec 32 := Scalar.muli v1383 c1_i32_986
  let v1387 : BitVec 32 := Scalar.addi v1385 v1386
  v1387.toNat
def k0_dev62 (d0 : Dev nD) : Nat :=
  let c0_i32_1008 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1007 : BitVec 32 := 2#32
  let v1416 : BitVec 32 := Scalar.muli v2 c2_i32_1007
  let v1417 : BitVec 32 := Scalar.addi c0_i32_1008 v1416
  let c1_i32_1004 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1415 : BitVec 32 := Scalar.subi c1_i32_1004 v5
  let c1_i32_1009 : BitVec 32 := 1#32
  let v1418 : BitVec 32 := Scalar.muli v1415 c1_i32_1009
  let v1419 : BitVec 32 := Scalar.addi v1417 v1418
  v1419.toNat
def k0_dev63 (d0 : Dev nD) : Nat :=
  let c0_i32_1031 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1030 : BitVec 32 := 2#32
  let v1448 : BitVec 32 := Scalar.muli v2 c2_i32_1030
  let v1449 : BitVec 32 := Scalar.addi c0_i32_1031 v1448
  let c1_i32_1027 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1447 : BitVec 32 := Scalar.subi c1_i32_1027 v5
  let c1_i32_1032 : BitVec 32 := 1#32
  let v1450 : BitVec 32 := Scalar.muli v1447 c1_i32_1032
  let v1451 : BitVec 32 := Scalar.addi v1449 v1450
  v1451.toNat
def k0_dev64 (d0 : Dev nD) : Nat :=
  let c0_i32_1054 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1053 : BitVec 32 := 2#32
  let v1480 : BitVec 32 := Scalar.muli v2 c2_i32_1053
  let v1481 : BitVec 32 := Scalar.addi c0_i32_1054 v1480
  let c1_i32_1050 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1479 : BitVec 32 := Scalar.subi c1_i32_1050 v5
  let c1_i32_1055 : BitVec 32 := 1#32
  let v1482 : BitVec 32 := Scalar.muli v1479 c1_i32_1055
  let v1483 : BitVec 32 := Scalar.addi v1481 v1482
  v1483.toNat
def k0_dev65 (d0 : Dev nD) : Nat :=
  let c0_i32_1077 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1076 : BitVec 32 := 2#32
  let v1512 : BitVec 32 := Scalar.muli v2 c2_i32_1076
  let v1513 : BitVec 32 := Scalar.addi c0_i32_1077 v1512
  let c1_i32_1073 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1511 : BitVec 32 := Scalar.subi c1_i32_1073 v5
  let c1_i32_1078 : BitVec 32 := 1#32
  let v1514 : BitVec 32 := Scalar.muli v1511 c1_i32_1078
  let v1515 : BitVec 32 := Scalar.addi v1513 v1514
  v1515.toNat
def k0_dev66 (d0 : Dev nD) : Nat :=
  let c0_i32_1100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1099 : BitVec 32 := 2#32
  let v1544 : BitVec 32 := Scalar.muli v2 c2_i32_1099
  let v1545 : BitVec 32 := Scalar.addi c0_i32_1100 v1544
  let c1_i32_1096 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1543 : BitVec 32 := Scalar.subi c1_i32_1096 v5
  let c1_i32_1101 : BitVec 32 := 1#32
  let v1546 : BitVec 32 := Scalar.muli v1543 c1_i32_1101
  let v1547 : BitVec 32 := Scalar.addi v1545 v1546
  v1547.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
# The kernel's body as three loops

The printed body is one straight line of more than three hundred operations: the entry handshake, thirty-two
sends along the first mesh axis, thirty-two steps "wait, add, store, forward" and thirty-two groups of closing
waits. Here each of the three phases is written once, for a chunk number `k`, and the body is shown to be the
handshake followed by the three phases run over the list of all chunks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Body

open Cert.KernelIdeal Cert.KernelIdeal.Gen
open Idealize.ShloMosaic
open Idealize.ShloMosaic.TcCoe
open Idealize.SL.Sem

variable {F : FTy → Type} [FloatOps F]

/-! ## The devices the transfers go to, as tables over the chunk number -/

/-- The device the send of chunk `k` along the first axis is addressed to, as the program computes it. -/
def devX (d : Dev nD) : Fin 32 → ℕ :=
  ![k0_dev3 d, k0_dev4 d, k0_dev5 d, k0_dev6 d, k0_dev7 d, k0_dev8 d, k0_dev9 d, k0_dev10 d,
    k0_dev11 d, k0_dev12 d, k0_dev13 d, k0_dev14 d, k0_dev15 d, k0_dev16 d, k0_dev17 d, k0_dev18 d,
    k0_dev19 d, k0_dev20 d, k0_dev21 d, k0_dev22 d, k0_dev23 d, k0_dev24 d, k0_dev25 d, k0_dev26 d,
    k0_dev27 d, k0_dev28 d, k0_dev29 d, k0_dev30 d, k0_dev31 d, k0_dev32 d, k0_dev33 d, k0_dev34 d]

/-- The device the send of chunk `k` along the second axis is addressed to, as the program computes it. -/
def devY (d : Dev nD) : Fin 32 → ℕ :=
  ![k0_dev35 d, k0_dev36 d, k0_dev37 d, k0_dev38 d, k0_dev39 d, k0_dev40 d, k0_dev41 d, k0_dev42 d,
    k0_dev43 d, k0_dev44 d, k0_dev45 d, k0_dev46 d, k0_dev47 d, k0_dev48 d, k0_dev49 d, k0_dev50 d,
    k0_dev51 d, k0_dev52 d, k0_dev53 d, k0_dev54 d, k0_dev55 d, k0_dev56 d, k0_dev57 d, k0_dev58 d,
    k0_dev59 d, k0_dev60 d, k0_dev61 d, k0_dev62 d, k0_dev63 d, k0_dev64 d, k0_dev65 d, k0_dev66 d]

theorem devX_lt : ∀ d k, devX d k < nD := by decide +kernel
theorem devY_lt : ∀ d k, devY d k < nD := by decide +kernel

/-! ## The memrefs and semaphores of chunk `k` -/

abbrev xM : Memref sig .tc .vmem S1x2048x1024 .f32 := Memref.whole cc0_stg0_0
abbrev oM : Memref sig .tc .vmem S2048x512 .f32 := Memref.whole cc0_stg1_0
abbrev rM : Memref sig .tc .vmem S32x32x512 .f32 := Memref.whole cc0_scratch0

theorem slot_inb : ∀ k : Fin 32, ∀ a, (![k.val, 0, 0] : Fin 3 → Nat) a + S1x32x512.size a ≤ S32x32x512.size a := by decide
theorem sem_inb : ∀ k : Fin 32, ∀ a, (![k.val] : Fin 1 → Nat) a + S1.size a ≤ S32.size a := by decide

abbrev rectSend (d : Dev nD) (k : Fin 32) : Rect S1x2048x1024 := Rect.unit (s := S1x2048x1024) (k0_off1 d (BitVec.ofNat 32 (32 * k.val))) S1x32x512.size (k0_off1_inb d k)
abbrev rectKeep (d : Dev nD) (k : Fin 32) : Rect S1x2048x1024 := Rect.unit (s := S1x2048x1024) (k0_off2 d (BitVec.ofNat 32 (32 * k.val))) S1x32x512.size (k0_off2_inb d k)
abbrev rectSlot (k : Fin 32) : Rect S32x32x512 := Rect.unit (s := S32x32x512) ![k.val, 0, 0] S1x32x512.size (slot_inb k)
abbrev rectStore (d : Dev nD) (k : Fin 32) : Rect S2048x512 := Rect.unit (s := S2048x512) (k0_off3 d (BitVec.ofNat 32 (32 * k.val))) S32x512.size (k0_off3_inb d k)
abbrev rectOut (d : Dev nD) (k : Fin 32) : Rect S2048x512 := Rect.unit (s := S2048x512) (k0_off4 d (BitVec.ofNat 32 (32 * k.val))) S32x512.size (k0_off4_inb d k)

/-- The part of the input block that goes to the first-axis peer as chunk `k`. -/
abbrev xSl (d : Dev nD) (k : Fin 32) : Memref sig .tc .vmem S32x512 .f32 := (xM.slice (rectSend d k) (fun _ => rfl)).squeeze S32x512 squeezes_S1x32x512_S32x512
/-- Slot `k` of the receive scratch. -/
abbrev rSl (k : Fin 32) : Memref sig .tc .vmem S32x512 .f32 := (rM.slice (rectSlot k) (fun _ => rfl)).squeeze S32x512 squeezes_S1x32x512_S32x512
/-- The rows of the result that device `d` computes as chunk `k`. -/
abbrev oSl (d : Dev nD) (k : Fin 32) : Memref sig .tc .vmem S32x512 .f32 := oM.slice (rectOut d k) (fun _ => rfl)

abbrev semAt (a : DmaSems sig S32) (k : Fin 32) : DmaSem sig := ((a.slice (Rect.unit (s := S32) ![k.val] S1.size (sem_inb k))).squeeze S_ squeezes_S1_S_).sem
abbrev barS : Sem sig := (SemArray.scalar (sig.barrier 0 rfl) : Sems sig S_).sem
/-- The DMA semaphores of chunk `k`: first-axis send and receive, second-axis send and receive. -/
abbrev sx (k : Fin 32) : DmaSem sig := semAt cc0_scratch1 k
abbrev rx (k : Fin 32) : DmaSem sig := semAt cc0_scratch2 k
abbrev sy (k : Fin 32) : DmaSem sig := semAt cc0_scratch3 k
abbrev ry (k : Fin 32) : DmaSem sig := semAt cc0_scratch4 k

abbrev P (F : FTy → Type) := Prog (TpuEff nD τ sig (Elt F) Λ₀ .tc) PUnit

/-- The two loaded chunks, added. -/
def sumPay (x r : Vec F S1x32x512 .f32) : FVec F S32x512 .f32 :=
  addf (shapeCast S32x512 x shapeCasts_S1x32x512_S32x512) (shapeCast S32x512 r shapeCasts_S1x32x512_S32x512)

/-! ## The phases -/

/-- Send chunk `k` to the first-axis peer. -/
def sendX (d : Dev nD) (k : Fin 32) : P F :=
  Prog.lift (.enqueueDma (xSl d k) (.remote (Dev.tc (⟨devX d k, devX_lt d k⟩ : Dev nD)) (rSl k) (.dma (sx k))) (.dma (rx k))
    ((View.wordExact_bits rfl).reshape _ _) ((View.wordExact_bits rfl).reshape _ _) ⟨⟨rfl, Or.inl rfl⟩, trivial⟩)

/-- Wait for the peer's chunk `k`, add it to the own one, store the sum and forward it to the second-axis peer. -/
def addSend (d : Dev nD) (k : Fin 32) : P F := do
  Prog.lift (.waitDma2 (rx k) (xSl d k) (rSl k) ((View.wordExact_bits rfl).reshape _ _) ((View.wordExact_bits rfl).reshape _ _))
  let x : Vec F S1x32x512 .f32 ← Prog.lift (.load xM (rectKeep d k).toLoadRect (View.loadsAt_vmem h_S1x32x512))
  let r : Vec F S1x32x512 .f32 ← Prog.lift (.load rM (rectSlot k).toLoadRect (View.loadsAt_vmem h_S1x32x512))
  let _ : Vec F S32x512 .f32 ← Prog.lift (.load oM (rectStore d k).toLoadRect (View.loadsAt_vmem h_S32x512))
  Prog.lift (.store oM (rectStore d k) (sumPay x r) Finset.univ (View.stores_vmem_bits_univ h_S32x512 rfl) (.inl rfl))
  Prog.lift (.enqueueDma (oSl d k) (.remote (Dev.tc (⟨devY d k, devY_lt d k⟩ : Dev nD)) (oSl d k) (.dma (sy k))) (.dma (ry k))
    (View.wordExact_bits rfl) (View.wordExact_bits rfl) ⟨⟨rfl, Or.inl rfl⟩, trivial⟩)

/-- Wait until chunk `k`'s two sends have left and the second-axis peer's chunk has arrived. -/
def drain (d : Dev nD) (k : Fin 32) : P F := do
  Prog.lift (.waitDma2 (sx k) (rSl k) (xSl d k) ((View.wordExact_bits rfl).reshape _ _) ((View.wordExact_bits rfl).reshape _ _))
  Prog.lift (.waitDma2 (sy k) (oSl d k) (oSl d k) (View.wordExact_bits rfl) (View.wordExact_bits rfl))
  Prog.lift (.waitDma2 (ry k) (oSl d k) (oSl d k) (View.wordExact_bits rfl) (View.wordExact_bits rfl))

/-- A phase over a list of chunks, then the rest. -/
def overList (f : Fin 32 → P F) : List (Fin 32) → P F → P F
  | [], rest => rest
  | k :: ks, rest => f k >>= fun _ => overList f ks rest

/-- All chunks, in the program's order. -/
def chunks : List (Fin 32) :=
  [0, 1, 2, 3, 4, 5, 6, 7, 8, 9, 10, 11, 12, 13, 14, 15, 16, 17, 18, 19, 20, 21, 22, 23, 24, 25, 26, 27, 28, 29, 30, 31]

/-- The body in loop form. -/
def body : P F := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  overList (sendX d) chunks (overList (addSend d) chunks (overList (drain d) chunks (pure ⟨⟩)))

set_option maxRecDepth 65536 in
/-- The printed body is the loop form, operation by operation. -/
theorem body_eq :
    cc0_body (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 = body := by
  rewrite [cc0_body_eq_skeleton]
  chain_rfl

end Cert.KernelIdeal.Body

end
-- ==== Proof.Geometry.lean ====
/-
# The devices, the pieces of the buffers, and what they hold

Device `c` of the two-by-two mesh has coordinates `(c / 2, c % 2)`. Chunk `k` of device `c` is a run of
thirty-two rows of `c`'s half of the rows. This module says which elements of each buffer a chunk covers, shows
that the chunks cover the receive scratch and the result without overlap, and names the contents each piece has
after each transfer: the landed chunk, the sum and the final result.
-/
module

public import proofs.«01_k».proof.Proof.Program

@[expose] public section

noncomputable section

namespace Cert.KernelIdeal.Body

open Cert.KernelIdeal Cert.KernelIdeal.Gen
open Idealize.ShloMosaic
open Idealize.ShloMosaic.TcCoe

/-! ## The two peers -/

set_option backward.proofsInPublic true in
/-- The device with the other first coordinate. -/
def peerX (c : Dev nD) : Dev nD := ⟨(c.val + 2) % 4, Nat.mod_lt _ (by decide)⟩
set_option backward.proofsInPublic true in
/-- The device with the other second coordinate. -/
def peerY (c : Dev nD) : Dev nD := ⟨2 * (c.val / 2) + 1 - c.val % 2, by have : c.val < 4 := c.isLt; show _ < 4; omega⟩

theorem peerX_peerX : ∀ c : Dev nD, peerX (peerX c) = c := by decide
theorem peerY_peerY : ∀ c : Dev nD, peerY (peerY c) = c := by decide
theorem peerX_div : ∀ c : Dev nD, (peerX c).val / 2 = 1 - c.val / 2 := by decide
theorem peerX_mod : ∀ c : Dev nD, (peerX c).val % 2 = c.val % 2 := by decide
theorem peerY_div : ∀ c : Dev nD, (peerY c).val / 2 = c.val / 2 := by decide
theorem peerY_mod : ∀ c : Dev nD, (peerY c).val % 2 = 1 - c.val % 2 := by decide
theorem div_le : ∀ c : Dev nD, c.val / 2 ≤ 1 := by decide
theorem mod_le : ∀ c : Dev nD, c.val % 2 ≤ 1 := by decide

/-- Every device the program computes is one of the two peers. -/
theorem dev1_eq : ∀ c : Dev nD, (⟨k0_dev1 c, k0_dev1_lt c⟩ : Dev nD) = peerX c := by decide +kernel
theorem dev2_eq : ∀ c : Dev nD, (⟨k0_dev2 c, k0_dev2_lt c⟩ : Dev nD) = peerY c := by decide +kernel
theorem devX_eq : ∀ (c : Dev nD) (k : Fin 32), (⟨devX c k, devX_lt c k⟩ : Dev nD) = peerX c := by decide +kernel
theorem devY_eq : ∀ (c : Dev nD) (k : Fin 32), (⟨devY c k, devY_lt c k⟩ : Dev nD) = peerY c := by decide +kernel

/-! ## Which elements a piece covers -/

/-- Slot `k` of the receive scratch. -/
abbrev slotSet (k : Fin 32) : Finset S32x32x512.Idx := (rSl k).view.set
/-- The part of the input block that device `d` sends as chunk `k`. -/
abbrev sendSet (d : Dev nD) (k : Fin 32) : Finset S1x2048x1024.Idx := (xSl d k).view.set
/-- The rows of the result that device `d` computes as chunk `k`. -/
abbrev outSet (d : Dev nD) (k : Fin 32) : Finset S2048x512.Idx := (oSl d k).view.set

theorem slot_set (k : Fin 32) : slotSet k = (rectSlot k).set :=
  (View.set_reshape _ _).trans (View.set_slice_whole _ _)
theorem send_set (d : Dev nD) (k : Fin 32) : sendSet d k = (rectSend d k).set :=
  (View.set_reshape _ _).trans (View.set_slice_whole _ _)
theorem out_set (d : Dev nD) (k : Fin 32) : outSet d k = (rectOut d k).set :=
  View.set_slice_whole _ _

theorem mem_slot (k : Fin 32) (y : S32x32x512.Idx) :
    y ∈ slotSet k ↔ (y 0).val = k.val := by
  rw [slot_set, Rect.mem_set_unit]
  have h1 : (y 1).val < 32 := (y 1).isLt
  have h2 : (y 2).val < 512 := (y 2).isLt
  refine Fin.forall_fin_succ.trans ⟨fun h => ?_, fun h => ⟨?_, Fin.forall_fin_two.mpr ⟨?_, ?_⟩⟩⟩
  · have := h.1; simp at this; omega
  · simp; omega
  · exact ⟨Nat.zero_le _, h1⟩
  · exact ⟨Nat.zero_le _, h2⟩

theorem mem_out (d : Dev nD) (k : Fin 32) (y : S2048x512.Idx) :
    y ∈ outSet d k
      ↔ 1024 * (d.val % 2) + 32 * k.val ≤ (y 0).val ∧ (y 0).val < 1024 * (d.val % 2) + 32 * k.val + 32 := by
  rw [out_set, Rect.mem_set_unit, k0_off4_eq]
  have h1 : (y 1).val < 512 := (y 1).isLt
  exact Fin.forall_fin_two.trans ⟨fun h => h.1, fun h => ⟨h, Nat.zero_le _, h1⟩⟩

theorem mem_send (d : Dev nD) (k : Fin 32) (y : S1x2048x1024.Idx) :
    y ∈ sendSet d k
      ↔ (1024 * (d.val % 2) + 32 * k.val ≤ (y 1).val ∧ (y 1).val < 1024 * (d.val % 2) + 32 * k.val + 32)
        ∧ (512 - 512 * (d.val / 2) ≤ (y 2).val ∧ (y 2).val < 512 - 512 * (d.val / 2) + 512) := by
  rw [send_set, Rect.mem_set_unit, k0_off1_eq]
  have h0 : (y 0).val < 1 := (y 0).isLt
  exact Fin.forall_fin_succ.trans ⟨fun h => Fin.forall_fin_two.mp h.2, fun h => ⟨⟨Nat.zero_le _, h0⟩, Fin.forall_fin_two.mpr h⟩⟩

theorem mem_keep (d : Dev nD) (k : Fin 32) (y : S1x2048x1024.Idx) :
    y ∈ (rectKeep d k).set
      ↔ (1024 * (d.val % 2) + 32 * k.val ≤ (y 1).val ∧ (y 1).val < 1024 * (d.val % 2) + 32 * k.val + 32)
        ∧ (512 * (d.val / 2) ≤ (y 2).val ∧ (y 2).val < 512 * (d.val / 2) + 512) := by
  rw [Rect.mem_set_unit, k0_off2_eq]
  have h0 : (y 0).val < 1 := (y 0).isLt
  exact Fin.forall_fin_succ.trans ⟨fun h => Fin.forall_fin_two.mp h.2, fun h => ⟨⟨Nat.zero_le _, h0⟩, Fin.forall_fin_two.mpr h⟩⟩

/-! ## The pieces are disjoint, and cover -/

theorem slot_disjoint (k k' : Fin 32) (h : k ≠ k') :
    Disjoint (slotSet k) (slotSet k') :=
  Finset.disjoint_left.mpr fun y hy hy' =>
    h (Fin.ext (((mem_slot k y).mp hy).symm.trans ((mem_slot k' y).mp hy')))

theorem send_disjoint (d : Dev nD) (k k' : Fin 32) (h : k ≠ k') :
    Disjoint (sendSet d k) (sendSet d k') :=
  Finset.disjoint_left.mpr fun y hy hy' => h (Fin.ext (by
    have := (mem_send d k y).mp hy; have := (mem_send d k' y).mp hy'; omega))

theorem out_disjoint (d : Dev nD) (k k' : Fin 32) (h : k ≠ k') :
    Disjoint (outSet d k) (outSet d k') :=
  Finset.disjoint_left.mpr fun y hy hy' => h (Fin.ext (by
    have := (mem_out d k y).mp hy; have := (mem_out d k' y).mp hy'; omega))

/-- All of the input block that is sent away. -/
def sendAll (d : Dev nD) : Finset S1x2048x1024.Idx := Finset.univ.biUnion fun k : Fin 32 => sendSet d k
/-- All rows of the result that device `d` computes. -/
def outAll (d : Dev nD) : Finset S2048x512.Idx := Finset.univ.biUnion fun k : Fin 32 => outSet d k

theorem slot_cover : (Finset.univ.biUnion fun k : Fin 32 => slotSet k) = Finset.univ := by
  ext y
  simp only [Finset.mem_biUnion, Finset.mem_univ, true_and, iff_true]
  exact ⟨y 0, (mem_slot _ y).mpr rfl⟩

theorem mem_outAll (d : Dev nD) (y : S2048x512.Idx) : y ∈ outAll d ↔ (y 0).val / 1024 = d.val % 2 := by
  have h0 : (y 0).val < 2048 := (y 0).isLt
  have := mod_le d
  unfold outAll
  simp only [Finset.mem_biUnion, Finset.mem_univ, true_and]
  constructor
  · rintro ⟨k, hk⟩
    have := (mem_out d k y).mp hk; have := k.isLt; omega
  · intro h
    refine ⟨⟨((y 0).val - 1024 * (d.val % 2)) / 32, by omega⟩, (mem_out d _ y).mpr ?_⟩
    dsimp only; omega

theorem outAll_disjoint (d : Dev nD) : Disjoint (outAll d) (outAll (peerY d)) :=
  Finset.disjoint_left.mpr fun y hy hy' => by
    have := (mem_outAll _ y).mp hy; have := (mem_outAll _ y).mp hy'; have := peerY_mod d; have := mod_le d; omega

theorem outAll_cover (d : Dev nD) : outAll d ∪ outAll (peerY d) = Finset.univ := by
  ext y
  have h0 : (y 0).val < 2048 := (y 0).isLt
  have := peerY_mod d
  have := mod_le d
  rw [Finset.mem_union, mem_outAll, mem_outAll]
  simp only [Finset.mem_univ, iff_true]
  omega

/-- The rows that are added stay clear of everything that is sent. -/
theorem keep_subset (d : Dev nD) (k : Fin 32) : (rectKeep d k).set ⊆ Finset.univ \ sendAll d := fun y hy => by
  rw [Finset.mem_sdiff]
  refine ⟨Finset.mem_univ _, fun h => ?_⟩
  obtain ⟨k', -, hk'⟩ := Finset.mem_biUnion.mp h
  have := (mem_keep d k y).mp hy; have := (mem_send d k' y).mp hk'; have := div_le d; omega

theorem store_eq_out (d : Dev nD) (k : Fin 32) : rectStore d k = rectOut d k :=
  Rect.unit_congr ((k0_off3_eq d k).trans (k0_off4_eq d k).symm) _ _

theorem store_set (d : Dev nD) (k : Fin 32) : (rectStore d k).set = outSet d k := by rw [out_set, store_eq_out]

/-! ## Contents -/

variable {F : FTy → Type} [FloatOps F]

variable (m : (ℓ : Loc nD τ sig) → Buf (Elt F) ℓ)

/-- The input block of device `c`, as staged for the kernel. -/
def xstg (c : Dev nD) : (cc0_stg0_0 : Ref sig .tc).ty.Contents (Elt F) :=
  (win0_0.blk (0 : Fin 1)).view.read (Elt F) (m ((c : Thread nD τ).loc main_arg0))

/-- An index of the input block. -/
def xIx (r q : ℕ) : S1x2048x1024.Idx :=
  fun a => match a with
    | ⟨0, _⟩ => (⟨0, Nat.one_pos⟩ : Fin 1)
    | ⟨1, _⟩ => (⟨r % 2048, Nat.mod_lt _ (by decide)⟩ : Fin 2048)
    | ⟨2, _⟩ => (⟨q % 1024, Nat.mod_lt _ (by decide)⟩ : Fin 1024)

/-- An index of the input block is the index of its row and column. -/
theorem eq_xIx (y : S1x2048x1024.Idx) {r q : ℕ} (hr : (y 1).val = r) (hq : (y 2).val = q) : y = xIx r q := by
  funext a
  have h1 : (y 1).val < 2048 := (y 1).isLt
  have h2 : (y 2).val < 1024 := (y 2).isLt
  match a with
  | ⟨0, _⟩ => exact Fin.ext (by have : (y 0).val < 1 := (y 0).isLt; show (y 0).val = 0; omega)
  | ⟨1, _⟩ => exact Fin.ext (by show (y 1).val = r % 2048; omega)
  | ⟨2, _⟩ => exact Fin.ext (by show (y 2).val = q % 1024; omega)

/-- The receive scratch of device `c` once every chunk has landed: slot `k` holds chunk `k` of the first-axis
    peer's block, in the columns of `c`. -/
def landed (c : Dev nD) : (cc0_scratch0 : Ref sig .tc).ty.Contents (Elt F) := fun (y : S32x32x512.Idx) =>
  xstg m (peerX c) (xIx (1024 * (c.val % 2) + 32 * (y 0).val + (y 1).val) (512 * (c.val / 2) + (y 2).val))

/-- The sum device `c` computes: its block plus the first-axis peer's, in the columns of `c`. -/
def sumAt (c : Dev nD) : (cc0_stg1_0 : Ref sig .tc).ty.Contents (Elt F) := fun (y : S2048x512.Idx) =>
  FloatOps.addf (φ := .f32) (xstg m c (xIx (y 0).val (512 * (c.val / 2) + (y 1).val)))
    (xstg m (peerX c) (xIx (y 0).val (512 * (c.val / 2) + (y 1).val)))

/-- The result on device `c`: its own sum on its half of the rows, the second-axis peer's on the other. -/
def outAt (c : Dev nD) : (cc0_stg1_0 : Ref sig .tc).ty.Contents (Elt F) := fun (y : S2048x512.Idx) =>
  if (y 0).val / 1024 = c.val % 2 then sumAt m c y else sumAt m (peerY c) y

/-- A unit-stride rectangle places an element at its offset plus the element. -/
theorem unit_emb {s : Shape} (r : Rect s) (a : Fin s.rank) (h : r.stride a = 1) (z : r.shape.Idx) :
    ((r.emb z) a).val = r.off a + (z a).val := by
  rw [Rect.emb_apply, h, Nat.one_mul]

theorem squeeze_idx (x : S32x512.Idx) (h : S32x512.numel = S1x32x512.numel) :
    Shape.reshapeEquiv h x = (Fin.cons ⟨0, Nat.one_pos⟩ x : S1x32x512.Idx) := Shape.reshapeEquiv_cons_one h x

/-- The element of the input block under element `x` of the part sent as chunk `k`; -/
theorem send_emb (d : Dev nD) (k : Fin 32) (z : S1x32x512.Idx) :
    (rectSend d k).emb z = xIx (1024 * (d.val % 2) + 32 * k.val + (z 1).val) (512 - 512 * (d.val / 2) + (z 2).val) :=
  eq_xIx _ ((unit_emb (rectSend d k) 1 rfl z).trans (congrArg (fun o : Fin 3 → ℕ => o 1 + (z 1).val) (k0_off1_eq d k)))
    ((unit_emb (rectSend d k) 2 rfl z).trans (congrArg (fun o : Fin 3 → ℕ => o 2 + (z 2).val) (k0_off1_eq d k)))

/-- under element `z` of the part the chunk's receiver adds. -/
theorem keep_emb (d : Dev nD) (k : Fin 32) (z : S1x32x512.Idx) :
    (rectKeep d k).emb z = xIx (1024 * (d.val % 2) + 32 * k.val + (z 1).val) (512 * (d.val / 2) + (z 2).val) :=
  eq_xIx _ ((unit_emb (rectKeep d k) 1 rfl z).trans (congrArg (fun o : Fin 3 → ℕ => o 1 + (z 1).val) (k0_off2_eq d k)))
    ((unit_emb (rectKeep d k) 2 rfl z).trans (congrArg (fun o : Fin 3 → ℕ => o 2 + (z 2).val) (k0_off2_eq d k)))

/-- Slot `k` holds rows of the first-axis peer's block. -/
theorem landed_slot (d : Dev nD) (k : Fin 32) (z : S1x32x512.Idx) :
    landed m d ((rectSlot k).emb z)
      = xstg m (peerX d) (xIx (1024 * (d.val % 2) + 32 * k.val + (z 1).val) (512 * (d.val / 2) + (z 2).val)) := by
  have e0 : (((rectSlot k).emb z) 0 : Fin 32).val = k.val + (z 0).val := unit_emb (rectSlot k) 0 rfl z
  have e1 : (((rectSlot k).emb z) 1 : Fin 32).val = 0 + (z 1).val := unit_emb (rectSlot k) 1 rfl z
  have e2 : (((rectSlot k).emb z) 2 : Fin 512).val = 0 + (z 2).val := unit_emb (rectSlot k) 2 rfl z
  have h0 : (z 0).val < 1 := (z 0).isLt
  unfold landed
  rw [e0, e1, e2, Nat.lt_one_iff.mp h0, Nat.add_zero, Nat.zero_add, Nat.zero_add]

/-- Chunk `k` of device `d`, copied into slot `k` of its first-axis peer, is what that slot is to hold. -/
theorem landed_write (d : Dev nD) (k : Fin 32) (fd : (cc0_scratch0 : Ref sig .tc).ty.Contents (Elt F)) :
    ∀ y ∈ slotSet k,
      (rSl k).view.write (Elt F) fd ((xSl d k).view.read (Elt F) (xstg m d)) Finset.univ y = landed m (peerX d) y := by
  intro y hy
  obtain ⟨x, -, rfl⟩ := Finset.mem_map.mp hy
  rw [View.write_emb_of_mem _ _ (Finset.mem_univ x)]
  show xstg m d ((rectSend d k).emb (Shape.reshapeEquiv _ x)) = landed m (peerX d) ((rectSlot k).emb (Shape.reshapeEquiv _ x))
  rw [send_emb, landed_slot, peerX_peerX, peerX_mod, peerX_div]
  have := div_le d
  rw [show 512 - 512 * (d.val / 2) = 512 * (1 - d.val / 2) by omega]

/-- What device `d` loads and adds as chunk `k`, stored, is the sum on those rows. -/
theorem sum_write (d : Dev nD) (k : Fin 32) (fo : (cc0_stg1_0 : Ref sig .tc).ty.Contents (Elt F)) :
    ∀ y ∈ outSet d k,
      (oM.access (rectStore d k)).write (Elt F) fo
        (sumPay ((xM.access (rectKeep d k)).read (Elt F) (xstg m d)) ((rM.access (rectSlot k)).read (Elt F) (landed m d))) Finset.univ y
        = sumAt m d y := by
  intro y hy
  rw [out_set, ← store_eq_out, ← Rect.map_emb_univ] at hy
  obtain ⟨x, -, rfl⟩ := Finset.mem_map.mp hy
  refine (View.write_emb_of_mem (v := oM.access (rectStore d k)) _ _ (Finset.mem_univ x)).trans ?_
  have e0 : (((rectStore d k).emb x) 0 : Fin 2048).val = 1024 * (d.val % 2) + 32 * k.val + (x 0).val :=
    (unit_emb (rectStore d k) 0 rfl x).trans (congrArg (fun o : Fin 2 → ℕ => o 0 + (x 0).val) (k0_off3_eq d k))
  have e1 : (((rectStore d k).emb x) 1 : Fin 512).val = 0 + (x 1).val :=
    (unit_emb (rectStore d k) 1 rfl x).trans (congrArg (fun o : Fin 2 → ℕ => o 1 + (x 1).val) (k0_off3_eq d k))
  show FloatOps.addf (φ := .f32) (xstg m d ((rectKeep d k).emb (Shape.reshapeEquiv _ x))) (landed m d ((rectSlot k).emb (Shape.reshapeEquiv _ x)))
    = sumAt m d ((rectStore d k).emb x)
  unfold sumAt
  rw [keep_emb, landed_slot, e0, e1, Nat.zero_add]
  rw [squeeze_idx]
  rfl

/-- Copying rows of the second-axis sum through the same rows leaves that sum there. -/
theorem sum_copy (d : Dev nD) (k : Fin 32) (fo : (cc0_stg1_0 : Ref sig .tc).ty.Contents (Elt F)) :
    ∀ y ∈ outSet d k,
      (oSl d k).view.write (Elt F) fo ((oSl d k).view.read (Elt F) (sumAt m d)) Finset.univ y = sumAt m d y := by
  intro y hy
  rw [View.write_read_eq_piecewise]
  exact Finset.piecewise_eq_of_mem _ _ _ hy

theorem outAt_own (c : Dev nD) : ∀ y ∈ outAll c, sumAt m c y = outAt m c y := fun y hy => by
  unfold outAt; exact (if_pos ((mem_outAll c y).mp hy)).symm
theorem outAt_other (c : Dev nD) : ∀ y ∈ outAll (peerY c), sumAt m (peerY c) y = outAt m c y := fun y hy => by
  have := (mem_outAll _ y).mp hy; have := peerY_mod c; have := mod_le c
  unfold outAt; exact (if_neg (by omega)).symm

end Cert.KernelIdeal.Body

end

end
-- ==== Proof.Cells.lean ====
/-
# The semaphores' schedule

Every device has one barrier semaphore and four DMA semaphores per chunk. Each is used for one round. The
schedule says, for every cell, who pays it, how many units, and what the payer hands over with the payment:

* a barrier cell is paid one unit by each peer; the first-axis peer hands over its receive scratch, the
  second-axis peer the rows of its result that this device will write;
* a receive cell is paid by the arriving copy, which hands over the elements written;
* a send cell is paid by the leaving copy, which hands back the elements read.

A device waits on a cell only while everything it still owes lies at a higher level: barrier below first-axis
receive below second-axis receive; this is what rules out a deadlock.
-/
module

public import proofs.«01_k».proof.Proof.Geometry
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the kernel's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
abbrev sxCell (c : Dev nD) (k : Fin 32) : GSem nD τ sig := ((c : Thread nD τ), .dma (sx k))
abbrev rxCell (c : Dev nD) (k : Fin 32) : GSem nD τ sig := ((c : Thread nD τ), .dma (rx k))
abbrev syCell (c : Dev nD) (k : Fin 32) : GSem nD τ sig := ((c : Thread nD τ), .dma (sy k))
abbrev ryCell (c : Dev nD) (k : Fin 32) : GSem nD τ sig := ((c : Thread nD τ), .dma (ry k))

/-- What a cell is for: the barrier (`none`), or chunk `k`'s first-axis send (0), first-axis receive (1),
    second-axis send (2), second-axis receive (3). -/
abbrev Kd : Type := Option (Fin 4 × Fin 32)

/-- The DMA semaphore of a kind; -/
abbrev dsem : Fin 4 × Fin 32 → DmaSem sig
  | (0, k) => sx k
  | (1, k) => rx k
  | (2, k) => sy k
  | (3, k) => ry k

/-- the semaphore of a kind. -/
abbrev csem : Kd → SemLoc sig
  | none => .reg barS
  | some jk => .dma (dsem jk)

/-- The kind of a semaphore, if it is one of the kernel's. -/
def kindOf : SemLoc sig → Option Kd
  | .reg s => if s = barS then some none else none
  | .dma q =>
    if h : 2 ≤ q.val then
      some (some (⟨(q.val - 2) / 32, by have : q.val < 130 := q.isLt; omega⟩, ⟨(q.val - 2) % 32, Nat.mod_lt _ (by decide)⟩))
    else none

theorem kindOf_dsem : ∀ jk, kindOf (.dma (dsem jk)) = some (some jk) := by decide +kernel
theorem kindOf_csem : ∀ κ, kindOf (csem κ) = some κ
  | none => by decide
  | some jk => kindOf_dsem jk

theorem kindOf_bar : kindOf (.reg barS) = some none := kindOf_csem none
theorem kindOf_sx (k : Fin 32) : kindOf (.dma (sx k)) = some (some (0, k)) := kindOf_dsem (0, k)
theorem kindOf_rx (k : Fin 32) : kindOf (.dma (rx k)) = some (some (1, k)) := kindOf_dsem (1, k)
theorem kindOf_sy (k : Fin 32) : kindOf (.dma (sy k)) = some (some (2, k)) := kindOf_dsem (2, k)
theorem kindOf_ry (k : Fin 32) : kindOf (.dma (ry k)) = some (some (3, k)) := kindOf_dsem (3, k)

theorem csem_injective : Function.Injective csem := fun a b h =>
  Option.some.inj ((kindOf_csem a).symm.trans ((congrArg kindOf h).trans (kindOf_csem b)))

/-- The units one copied chunk adds to a cell. -/
def N : ℕ := (rSl 0).view.dmaCredit
theorem N_pos : 0 < N := View.dmaCredit_pos _ (by decide)
theorem credit_r (k : Fin 32) : (rSl k).view.dmaCredit = N := rfl
theorem credit_x (d : Dev nD) (k : Fin 32) : (xSl d k).view.dmaCredit = N := rfl
theorem credit_o (d : Dev nD) (k : Fin 32) : (oSl d k).view.dmaCredit = N := rfl

/-! ## The pieces, held -/

/-- Slot `k` of `c`'s receive scratch; -/
def slotPts (c : Dev nD) (k : Fin 32) (f : (cc0_scratch0 : Ref sig .tc).ty.Contents (Elt F)) : sProp 𝕄 :=
  (rSl k).view.loc (c : Thread nD τ) ↦[(rSl k).view.set]{fullShare} f
/-- the part of `c`'s input block sent as chunk `k`; -/
def sendPts (c : Dev nD) (k : Fin 32) (f : (cc0_stg0_0 : Ref sig .tc).ty.Contents (Elt F)) : sProp 𝕄 :=
  (xSl c k).view.loc (c : Thread nD τ) ↦[(xSl c k).view.set]{fullShare} f
/-- the rows of `c`'s result that device `d` computes as chunk `k`. -/
def outPts (c d : Dev nD) (k : Fin 32) (f : (cc0_stg1_0 : Ref sig .tc).ty.Contents (Elt F)) : sProp 𝕄 :=
  (oSl d k).view.loc (c : Thread nD τ) ↦[(oSl d k).view.set]{fullShare} f

instance slotPts_storable (c : Dev nD) (k : Fin 32) (f) : BI.Storable (upEmb : UEmb _ 𝕄) (slotPts (F := F) c k f) := by
  unfold slotPts; infer_instance
instance sendPts_storable (c : Dev nD) (k : Fin 32) (f) : BI.Storable (upEmb : UEmb _ 𝕄) (sendPts (F := F) c k f) := by
  unfold sendPts; infer_instance
instance outPts_storable (c d : Dev nD) (k : Fin 32) (f) : BI.Storable (upEmb : UEmb _ 𝕄) (outPts (F := F) c d k f) := by
  unfold outPts; infer_instance

/-- Contents that agree on a piece hold it alike. -/
theorem slotPts_congr (c : Dev nD) (k : Fin 32) {f g : (cc0_scratch0 : Ref sig .tc).ty.Contents (Elt F)} (h : ∀ y ∈ slotSet k, f y = g y) :
    (slotPts c k f : sProp 𝕄) = slotPts c k g := pointsTo_congr h
theorem outPts_congr (c d : Dev nD) (k : Fin 32) {f g : (cc0_stg1_0 : Ref sig .tc).ty.Contents (Elt F)} (h : ∀ y ∈ outSet d k, f y = g y) :
    (outPts c d k f : sProp 𝕄) = outPts c d k g := pointsTo_congr h

/-- All of `c`'s receive scratch, slot by slot, at any contents; -/
def anySlots (c : Dev nD) : sProp 𝕄 := bigSep Finset.univ fun k : Fin 32 => iprop(∃ f, slotPts c k f)
/-- all rows of `c`'s result that `d` computes, chunk by chunk, at any contents. -/
def anyRows (c d : Dev nD) : sProp 𝕄 := bigSep Finset.univ fun k : Fin 32 => iprop(∃ f, outPts c d k f)

instance anySlots_storable (c : Dev nD) : BI.Storable (upEmb : UEmb _ 𝕄) (anySlots (F := F) c) := by unfold anySlots; infer_instance
instance anyRows_storable (c d : Dev nD) : BI.Storable (upEmb : UEmb _ 𝕄) (anyRows (F := F) c d) := by unfold anyRows; infer_instance

/-! ## The schedule -/

variable (m : (ℓ : Loc nD τ sig) → Buf (Elt F) ℓ)

/-- Who pays a cell: the barrier both peers (`false` the first-axis one), the others one copy. -/
def dutiesK : Option Kd → Finset Bool
  | some none => Finset.univ
  | some (some _) => {false}
  | none => ∅

def amountK : Option Kd → ℕ
  | some none => 1
  | _ => N

/-- What comes to device `c` with the payment of one of its cells. -/
def payK (c : Dev nD) : Option Kd → Bool → sProp 𝕄
  | some none, false => anySlots (peerX c)
  | some none, true => anyRows (peerY c) c
  | some (some (0, k)), _ => sendPts c k (xstg m c)
  | some (some (1, k)), _ => slotPts c k (landed m c)
  | some (some (2, k)), _ => outPts c c k (sumAt m c)
  | some (some (3, k)), _ => outPts c (peerY c) k (sumAt m (peerY c))
  | none, _ => iprop(emp)

instance payK_storable (c : Dev nD) (κ : Option Kd) (d : Bool) : BI.Storable (upEmb : UEmb _ 𝕄) (payK (F := F) m c κ d) := by
  unfold payK; split <;> infer_instance

def sched : Rounds.Schedule (GSem nD τ sig) Bool 𝕄 where
  duties g r := if r = 0 ∧ g.1.2 = .tc then dutiesK (kindOf g.2) else ∅
  unitless _ := False
  amount g _ _ := amountK (kindOf g.2)
  payload g _ d := payK m g.1.1 (kindOf g.2) d
  amount_pos g _ _ _ := by
    unfold amountK; split
    · exact Nat.one_pos
    · exact N_pos

instance sched_storable (g : GSem nD τ sig) (r : ℕ) (d : Bool) : BI.Storable (upEmb : UEmb _ 𝕄) ((sched (F := F) m).payload g r d) := by
  show BI.Storable upEmb (payK m g.1.1 (kindOf g.2) d); infer_instance

theorem duties_at (c : Dev nD) {sm : SemLoc sig} {κ : Kd} (h : kindOf sm = some κ) :
    (sched (F := F) m).duties ((c : Thread nD τ), sm) 0 = dutiesK (some κ) := by
  dsimp only [sched]; rw [if_pos ⟨rfl, rfl⟩, h]
theorem duties_later (g : GSem nD τ sig) : ∀ r, 1 ≤ r → (sched (F := F) m).duties g r = ∅ :=
  fun r hr => by dsimp only [sched]; rw [if_neg fun h => by omega]
theorem amount_at (c : Dev nD) {sm : SemLoc sig} {κ : Kd} (h : kindOf sm = some κ) (d : Bool) :
    (sched (F := F) m).amount ((c : Thread nD τ), sm) 0 d = amountK (some κ) := by dsimp only [sched]; rw [h]
theorem payload_at (c : Dev nD) {sm : SemLoc sig} {κ : Kd} (h : kindOf sm = some κ) (d : Bool) :
    (sched (F := F) m).payload ((c : Thread nD τ), sm) 0 d = payK m c (some κ) d := by dsimp only [sched]; rw [h]

theorem duty_bar (c : Dev nD) (d : Bool) : d ∈ (sched (F := F) m).duties (barCell c) 0 := by
  rw [duties_at m c kindOf_bar]; exact Finset.mem_univ _
theorem duty_dma (c : Dev nD) {q : DmaSem sig} {jk : Fin 4 × Fin 32} (h : kindOf (.dma q) = some (some jk)) :
    false ∈ (sched (F := F) m).duties ((c : Thread nD τ), .dma q) 0 := by
  rw [duties_at m c h]; exact Finset.mem_singleton_self _
theorem amount_dma (c : Dev nD) {q : DmaSem sig} {jk : Fin 4 × Fin 32} (h : kindOf (.dma q) = some (some jk)) (d : Bool) :
    (sched (F := F) m).amount ((c : Thread nD τ), .dma q) 0 d = N := amount_at m c h d

theorem expect_bar (c : Dev nD) : (sched (F := F) m).expect (barCell c) 0 = 2 := by
  unfold Schedule.expect Schedule.amountOf
  rw [duties_at m c kindOf_bar, Finset.sum_congr rfl fun d _ => amount_at m c kindOf_bar d]; rfl
theorem expect_dma (c : Dev nD) {q : DmaSem sig} {jk : Fin 4 × Fin 32} (h : kindOf (.dma q) = some (some jk)) :
    (sched (F := F) m).expect ((c : Thread nD τ), .dma q) 0 = N := by
  unfold Schedule.expect Schedule.amountOf
  rw [duties_at m c h, Finset.sum_congr rfl fun d _ => amount_at m c h d]; exact Finset.sum_singleton _ _

/-- What a device has after waiting on its barrier: both peers' hand-overs; -/
theorem rest_bar (c : Dev nD) :
    bigSep ((sched (F := F) m).duties (barCell c) 0 \ ∅) (fun d => (sched (F := F) m).payload (barCell c) 0 d)
      = iprop(anySlots (peerX c) ∗ anyRows (peerY c) c) := by
  rw [Finset.sdiff_empty, duties_at m c kindOf_bar]
  show bigSep Finset.univ _ = _
  rw [bigSep_univ_eq_bigSepL [false, true] (by decide) (by decide), bigSepL_cons_cons, bigSepL_singleton,
    payload_at m c kindOf_bar, payload_at m c kindOf_bar]
  rfl
/-- after waiting on a DMA cell: what the copy handed over. -/
theorem rest_dma (c : Dev nD) {q : DmaSem sig} {jk : Fin 4 × Fin 32} (h : kindOf (.dma q) = some (some jk)) :
    bigSep ((sched (F := F) m).duties ((c : Thread nD τ), .dma q) 0 \ ∅) (fun d => (sched (F := F) m).payload ((c : Thread nD τ), .dma q) 0 d)
      = payK m c (some (some jk)) false := by
  rw [Finset.sdiff_empty, duties_at m c h]
  exact bigSep_singleton.trans (payload_at m c h false)

/-! ## What a device owes, and the levels -/

/-- One chunk's units owed to each cell of a list of chunks, over a base. -/
def owL (f : Fin 32 → GSem nD τ sig) (base : CellTallies nD τ sig Unit) : List (Fin 32) → CellTallies nD τ sig Unit
  | [] => base
  | k :: ks => owL f base ks + tallyAt (f k) () N

/-- After the handshake device `c` owes its peers' receive cells, chunk by chunk; -/
def owY (c : Dev nD) (ks : List (Fin 32)) : CellTallies nD τ sig Unit := owL (ryCell (peerY c)) 0 ks
def owX (c : Dev nD) (ks : List (Fin 32)) : CellTallies nD τ sig Unit := owL (rxCell (peerX c)) (owY c chunks) ks
/-- before it, a unit to each peer's barrier cell besides. -/
def O₁ (c : Dev nD) : CellTallies nD τ sig Unit := owX c chunks + tallyAt (barCell (peerY c)) () 1
def O₀ (c : Dev nD) : CellTallies nD τ sig Unit := O₁ c + tallyAt (barCell (peerX c)) () 1

def L (g : GSem nD τ sig) : Finset Unit := if g.1.2 = .tc then {()} else ∅
theorem L_of_ne (g : GSem nD τ sig) (h : g.1.2 ≠ .tc) : L g = ∅ := if_neg h
theorem L_tc {g : GSem nD τ sig} (h : g.1.2 = .tc) : L g = {()} := if_pos h

def lvK : Option Kd → ℕ
  | some none => 1
  | some (some (1, _)) => 2
  | some (some (3, _)) => 3
  | _ => 0
def lv (g : GSem nD τ sig) (_ : Unit) : ℕ := lvK (kindOf g.2)

theorem lv_bar (c : Dev nD) (u : Unit) : lv (barCell c) u = 1 := by unfold lv; rw [kindOf_bar]; rfl
theorem lv_rx (c : Dev nD) (k : Fin 32) (u : Unit) : lv (rxCell c k) u = 2 := by unfold lv; rw [kindOf_rx]; rfl
theorem lv_ry (c : Dev nD) (k : Fin 32) (u : Unit) : lv (ryCell c k) u = 3 := by unfold lv; rw [kindOf_ry]; rfl

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owL_pos {f : Fin 32 → GSem nD τ sig} {base : CellTallies nD τ sig Unit} {g : GSem nD τ sig} {u : Unit} :
    ∀ {ks : List (Fin 32)}, 0 < owL f base ks g u → (∃ k, g = f k) ∨ 0 < base g u
  | [], h => Or.inr h
  | k :: ks, h => by
    unfold owL at h
    rw [Pi.add_apply, Finsupp.add_apply] at h
    rcases Nat.lt_or_ge 0 (owL f base ks g u) with h' | h'
    · exact owL_pos h'
    · exact Or.inl ⟨k, tallyAt_pos (u := u) (n := N) (by omega)⟩

theorem owY_pos {c : Dev nD} {ks : List (Fin 32)} {g : GSem nD τ sig} {u : Unit} (h : 0 < owY c ks g u) : ∃ k, g = ryCell (peerY c) k := by
  rcases owL_pos h with h | h
  · exact h
  · exact absurd h (Nat.lt_irrefl 0)

theorem owX_pos {c : Dev nD} {ks : List (Fin 32)} {g : GSem nD τ sig} {u : Unit} (h : 0 < owX c ks g u) :
    (∃ k, g = rxCell (peerX c) k) ∨ ∃ k, g = ryCell (peerY c) k :=
  (owL_pos h).imp_right owY_pos

theorem O₀_pos {c : Dev nD} {g : GSem nD τ sig} {u : Unit} (h : 0 < O₀ c g u) :
    g.1.2 = .tc ∧ 0 < lv g u := by
  unfold O₀ O₁ at h
  rw [Pi.add_apply, Finsupp.add_apply, Pi.add_apply, Finsupp.add_apply] at h
  by_cases h1 : 0 < (tallyAt (barCell (peerX c)) () 1 : CellTallies nD τ sig Unit) g u
  · rw [tallyAt_pos h1]; exact ⟨rfl, by rw [lv_bar]; decide⟩
  by_cases h2 : 0 < (tallyAt (barCell (peerY c)) () 1 : CellTallies nD τ sig Unit) g u
  · rw [tallyAt_pos h2]; exact ⟨rfl, by rw [lv_bar]; decide⟩
  rcases owX_pos (c := c) (ks := chunks) (g := g) (u := u) (by omega) with ⟨k, rfl⟩ | ⟨k, rfl⟩
  · exact ⟨rfl, by rw [lv_rx]; decide⟩
  · exact ⟨rfl, by rw [lv_ry]; decide⟩

/-- A device may wait on a cell while all it owes lies higher. -/
theorem mayWait_of (c : Dev nD) (sm : SemLoc sig) (O : CellTallies nD τ sig Unit) (n : ℕ) (hn : lvK (kindOf sm) ≤ n)
    (h : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc rfl]; exact Finset.mem_singleton_self _)
    (fun g u hg => by rw [L_tc (h g u hg).1]; exact Finset.mem_singleton_self _)
    (fun p hp => by rw [Finset.mem_singleton.mp hp]; exact hn)
    (fun g u hg => (h g u hg).2)

theorem mayWait_bar (c : Dev nD) : (levAts L lv : sProp 𝕄) ⊢ MayWait (c : Thread nD τ) (.reg barS) () (owX c chunks) :=
  mayWait_of c _ _ 1 (by rw [kindOf_bar]; exact le_refl 1) fun g u hg => by
    rcases owX_pos hg with ⟨k, rfl⟩ | ⟨k, rfl⟩
    · exact ⟨rfl, by rw [lv_rx]; decide⟩
    · exact ⟨rfl, by rw [lv_ry]; decide⟩

theorem mayWait_rx (c : Dev nD) (k : Fin 32) (ks : List (Fin 32)) :
    (levAts L lv : sProp 𝕄) ⊢ MayWait (c : Thread nD τ) (.dma (rx k)) () (owY c ks) :=
  mayWait_of c _ _ 2 (by rw [kindOf_rx]; exact le_refl 2) fun g u hg => by
    obtain ⟨k, rfl⟩ := owY_pos hg
    exact ⟨rfl, by rw [lv_ry]; decide⟩

/-- The staging semaphores are below everything owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · exact mayWait_of c _ _ 0 (by rw [hq]; exact le_refl 0) fun g u hg => O₀_pos hg
  · rw [MayWait_zero]; iintro -; iempintro

end Cert.KernelIdeal.Body

end

end
-- ==== Proof.Steps.lean ====
/-
# One chunk at a time

The rules for the three phases at one chunk: what a device needs for the step and what it has after it.
-/
module

public import proofs.«01_k».proof.Proof.Cells

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The shared records: every cell's invariant, and that every cell has reached its round -/

abbrev kcell (ck : Dev nD × Kd) : GSem nD τ sig := ((ck.1 : Thread nD τ), csem ck.2)

def records (K : Dev nD × Kd → ℕ) : sProp 𝕄 :=
  iprop((bigSep Finset.univ fun ck : Dev nD × Kd => cellInv ER (sched m) (K ck) (kcell ck))
    ∗ bigSep Finset.univ fun ck : Dev nD × Kd => reached ER (kcell ck) 0)

instance records_persistent (K : Dev nD × Kd → ℕ) : BI.Persistent (records m K) := by unfold records; infer_instance

variable (K : Dev nD × Kd → ℕ)

theorem inv_at (c : Dev nD) (κ : Kd) : records m K ⊢ cellInv ER (sched m) (K (c, κ)) ((c : Thread nD τ), csem κ) :=
  (BI.sep_and.trans and_elimL).trans (bigSep_elim (Finset.mem_univ (c, κ)))
theorem reached_at (c : Dev nD) (κ : Kd) : records m K ⊢ reached ER ((c : Thread nD τ), csem κ) 0 :=
  (BI.sep_and.trans and_elimR).trans (bigSep_elim (Finset.mem_univ (c, κ)))

theorem pay_sx (c : Dev nD) (k : Fin 32) : payK m c (some (some (0, k))) false = sendPts c k (xstg m c) := rfl
theorem pay_rx (c : Dev nD) (k : Fin 32) : payK m c (some (some (1, k))) false = slotPts c k (landed m c) := rfl
theorem pay_sy (c : Dev nD) (k : Fin 32) : payK m c (some (some (2, k))) false = outPts c c k (sumAt m c) := rfl
theorem pay_ry (c : Dev nD) (k : Fin 32) : payK m c (some (some (3, k))) false = outPts c (peerY c) k (sumAt m (peerY c)) := rfl

/-! ## Waiting for a DMA cell and closing it -/

/-- A wait for the one round of an own DMA cell: what the copy handed over comes, and the cell, used up, is at zero. -/
theorem wp_waitCell (c : Dev nD) {jk : Fin 4 × Fin 32} {q : DmaSem sig} (hj : dsem jk = q)
    {sp sp' : Space} {s s' : Shape} {e e' : EltTy} (src : Memref sig .tc sp s e) (dst : Memref sig .tc sp' s' e')
    {h₁ : src.view.WordExact} {h₂ : dst.view.WordExact} (hN : dst.view.dmaCredit = N)
    (O : CellTallies nD τ sig Unit) (W : Waits sig Unit) (rest : P F) (Q : PUnit → sProp 𝕄) :
    iprop(records m K ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ payK m c (some (some jk)) false ∗ semVal ((c : Thread nD τ), .dma q) 0)
            -∗ wp frame (wpE (defs₀ (F := F)) 𝒱₀ (c : Thread nD τ) none) Set.univ rest Q)
          -∗ wp frame (wpE (defs₀ (F := F)) 𝒱₀ (c : Thread nD τ) none) Set.univ (.op (.waitDma2 q src dst h₁ h₂) fun _ => rest) Q) := by
  subst hj
  iintro ⟨#HR, Hc, HO, Hm, Hat⟩ Hk
  ihave #HI := (inv_at m K c (some jk)) $$ HR
  iapply (Rounds.wp_wait_rest_token 𝒱₀ ER (sched m) (c : Thread nD τ) none (κ := K (c, some jk))
      (wpE_waitDma2_eq 𝒱₀ (c : Thread nD τ) none Set.univ) (Set.mem_univ _) () (O := O) (W := W) (R := 0) (m := 0) (T := ∅)
      (by rw [Nat.zero_add, expect_dma m c (kindOf_dsem jk)]; exact hN)) $$ [Hc HO Hm Hat]
  · isplitr; · iexact HI
    isplitl [Hc]; · iapply (Entails.of_eq (congrArg (fun n => (cred (tallyAt ((c : Thread nD τ), .dma (dsem jk)) () n) : sProp 𝕄)) hN.symm)); iexact Hc
    isplitl [HO]; · iexact HO
    isplitl [Hm]; · iexact Hm
    iexact Hat
  iintro ⟨HO, Hat, -, Hpay⟩
  imod (Rounds.cell_close ER (sched m) (Set.mem_univ (K (c, some jk))) (fun h => h) (R := 0 + 1) (duties_later m _)) $$ [Hat] with Hz
  · isplitr; · iexact HI
    iexact Hat
  iapply Hk
  isplitl [HO]; · iexact HO
  isplitl [Hpay]; · iapply (Entails.of_eq (rest_dma m c (kindOf_dsem jk))); iexact Hpay
  iexact Hz

/-! ## A send -/

/-- A send to device `p` (the address as the program computes it): the two cells' duties are paid, the elements read
    to the send cell, the elements written to the receive cell. -/
theorem wp_sendTo (c n p : Dev nD) (hn : n = p) {jk jk' : Fin 4 × Fin 32} {sS sR : DmaSem sig} (hj : dsem jk = sS) (hj' : dsem jk' = sR)
    {s : Shape} {e : EltTy} {src dst : Memref sig .tc .vmem s e}
    {hsc : (dst : Memref sig (Dev.tc n : Thread nD τ).2.kind .vmem s e).view.ref.isScScratch = false}
    {hsrc : src.view.WordExact} {hdst : (dst : Memref sig (Dev.tc n : Thread nD τ).2.kind .vmem s e).view.WordExact}
    {hsem : DmaTarget.Typed .vmem (.dma sR) (.remote (Dev.tc n : Thread nD τ) dst (.dma sS) hsc)}
    (hN : dst.view.dmaCredit = N)
    {fs : Buf (Elt F) (src.view.loc (c : Thread nD τ))} (fd : Buf (Elt F) (dst.view.loc (p : Thread nD τ)))
    (hpay : (src.view.loc (c : Thread nD τ) ↦[src.view.set]{fullShare} fs) ⊢ payK m c (some (some jk)) false)
    (hpay' : (dst.view.loc (p : Thread nD τ) ↦[dst.view.set]{fullShare} (dst.view.write (Elt F) fd (src.view.read (Elt F) fs) Finset.univ))
      ⊢ payK m p (some (some jk')) false)
    (O : CellTallies nD τ sig Unit) (W : Waits sig Unit) (rest : P F) (Q : PUnit → sProp 𝕄) :
    iprop(records m K ∗ (src.view.loc (c : Thread nD τ) ↦[src.view.set]{fullShare} fs) ∗ (dst.view.loc (p : Thread nD τ) ↦[dst.view.set]{fullShare} fd)
        ∗ owes (c : Thread nD τ) (O + tallyAt ((p : Thread nD τ), .dma sR) () N) W
        ∗ dutyTok ER ((c : Thread nD τ), .dma sS) 0 false ∗ dutyTok ER ((p : Thread nD τ), .dma sR) 0 false)
      ⊢ iprop(((cred (tallyAt ((c : Thread nD τ), .dma sS) () N) ∗ owes (c : Thread nD τ) O W)
            -∗ wp frame (wpE (defs₀ (F := F)) 𝒱₀ (c : Thread nD τ) none) Set.univ rest Q)
          -∗ wp frame (wpE (defs₀ (F := F)) 𝒱₀ (c : Thread nD τ) none) Set.univ
              (.op (.enqueueDma src (.remote (Dev.tc n : Thread nD τ) dst (.dma sS) hsc) (.dma sR) hsrc hdst hsem) fun _ => rest) Q) := by
  subst hn hj hj'
  iintro ⟨#HR, Hx, Hs, HO, Ht1, Ht2⟩ Hk
  iapply (Rounds.wp_send_pointsTo 𝒱₀ ER (sched m) (c : Thread nD τ) none (κ₁ := K (c, some jk)) (κ₂ := K (n, some jk'))
    (r₁ := 0) (r₂ := 0) (d₁ := false) (d₂ := false) (fd := fd)
    (duty_dma m c (kindOf_dsem jk)) (duty_dma m n (kindOf_dsem jk'))
    () () N hN (amount_dma m c (kindOf_dsem jk) false) (amount_dma m n (kindOf_dsem jk') false) O rfl (W := W)
    (by rw [payload_at m c (kindOf_dsem jk)]; exact hpay)
    (by rw [payload_at m n (kindOf_dsem jk')]; exact hpay')) $$ [Hx Hs Ht1 Ht2 HO]
  · isplitr; · iapply (inv_at m K c (some jk)); iexact HR
    isplitr; · iapply (inv_at m K n (some jk')); iexact HR
    isplitl [Hx]; · iexact Hx
    isplitl [Hs]; · iexact Hs
    isplitl [HO]; · iexact HO
    isplitl [Ht1]; · iexact Ht1
    isplitr; · iapply (reached_at m K c (some jk)); iexact HR
    isplitl [Ht2]; · iexact Ht2
    iapply (reached_at m K n (some jk')); iexact HR
  iintro H
  iapply Hk
  iexact H

/-! ## The first phase -/

/-- What sending chunk `k` along the first axis needs: the rows, the slot they land in, the right to pay the two cells. -/
def preX (c : Dev nD) (k : Fin 32) : sProp 𝕄 :=
  iprop(sendPts c k (xstg m c) ∗ (∃ f, slotPts (peerX c) k f) ∗ dutyTok ER (sxCell c k) 0 false ∗ dutyTok ER (rxCell (peerX c) k) 0 false)
/-- What it leaves: the credit of the leaving copy. -/
def postX (c : Dev nD) (k : Fin 32) : sProp 𝕄 := cred (tallyAt (sxCell c k) () N)

theorem wp_sendX (c : Dev nD) (k : Fin 32) (O : CellTallies nD τ sig Unit) (W : Waits sig Unit) (rest : P F) (Q : PUnit → sProp 𝕄) :
    iprop(records m K ∗ preX m c k ∗ owes (c : Thread nD τ) (O + tallyAt (rxCell (peerX c) k) () N) W)
      ⊢ iprop(((postX c k ∗ owes (c : Thread nD τ) O W) -∗ wp frame (wpE (defs₀ (F := F)) 𝒱₀ (c : Thread nD τ) none) Set.univ rest Q)
          -∗ wp frame (wpE (defs₀ (F := F)) 𝒱₀ (c : Thread nD τ) none) Set.univ (sendX c k >>= fun _ => rest) Q) := by
  unfold sendX preX postX
  simp only [Prog.lift, Prog.bind_op, Prog.bind_ret, Prog.pure_eq_ret]
  iintro ⟨#HR, ⟨Hx, ⟨%f, Hs⟩, Ht1, Ht2⟩, HO⟩ Hk
  unfold sendPts slotPts
  iapply (wp_sendTo m K c _ _ (devX_eq c k) (jk := (0, k)) (jk' := (1, k)) rfl rfl (credit_r k) f
    (Entails.refl _) (Entails.of_eq (pointsTo_congr (landed_write m c k f))) O W) $$ [Hx Hs Ht1 Ht2 HO]
  · isplitr; · iexact HR
    isplitl [Hx]; · iexact Hx
    isplitl [Hs]; · iexact Hs
    isplitl [HO]; · iexact HO
    isplitl [Ht1] <;> iassumption
  iintro H
  iapply Hk
  iexact H

/-! ## The second phase -/

/-- The part of the input block that is not sent. -/
def keepPts (c : Dev nD) : sProp 𝕄 := xM.view.loc (c : Thread nD τ) ↦[Finset.univ \ sendAll c]{fullShare} xstg m c

/-- What adding and forwarding chunk `k` needs: the arrival's credit and place, the rows of the result here and at the
    second-axis peer, the right to pay the two cells. -/
def preA (c : Dev nD) (k : Fin 32) : sProp 𝕄 :=
  iprop(cred (tallyAt (rxCell c k) () N) ∗ atPos ER (rxCell c k) 0 ∅ 0 ∗ (∃ f, outPts c c k f) ∗ (∃ f, outPts (peerY c) c k f)
    ∗ dutyTok ER (syCell c k) 0 false ∗ dutyTok ER (ryCell (peerY c) k) 0 false)
/-- What it leaves: the landed chunk, the used receive cell, the credit of the leaving copy. -/
def postA (c : Dev nD) (k : Fin 32) : sProp 𝕄 :=
  iprop(slotPts c k (landed m c) ∗ semVal (rxCell c k) 0 ∗ cred (tallyAt (syCell c k) () N))

theorem wp_addSend (c : Dev nD) (k : Fin 32) (ks : List (Fin 32)) (W : Waits sig Unit) (rest : P F) (Q : PUnit → sProp 𝕄) :
    iprop(records m K ∗ levAts L lv ∗ keepPts m c ∗ preA c k ∗ owes (c : Thread nD τ) (owY c (k :: ks)) W)
      ⊢ iprop(((keepPts m c ∗ postA m c k ∗ ∃ W', owes (c : Thread nD τ) (owY c ks) W')
            -∗ wp frame (wpE (defs₀ (F := F)) 𝒱₀ (c : Thread nD τ) none) Set.univ rest Q)
          -∗ wp frame (wpE (defs₀ (F := F)) 𝒱₀ (c : Thread nD τ) none) Set.univ (addSend c k >>= fun _ => rest) Q) := by
  unfold addSend preA postA keepPts slotPts outPts
  simp only [Prog.lift, Prog.bind_op, Prog.bind_ret, Prog.pure_eq_ret]
  iintro ⟨#HR, #Hlev, Hx, ⟨Hc, Hat, ⟨%fo, Ho⟩, ⟨%fp, Hp⟩, Ht1, Ht2⟩, HO⟩ Hk
  -- the peer's chunk arrives
  iapply (wp_waitCell m K c (jk := (1, k)) rfl (xSl c k) (rSl k) (credit_r k) (owY c (k :: ks)) W) $$ [Hc HO Hat]
  · isplitr; · iexact HR
    isplitl [Hc]; · iexact Hc
    isplitl [HO]; · iexact HO
    isplitr; · iapply (mayWait_rx c k (k :: ks)); iexact Hlev
    iexact Hat
  iintro ⟨HO, Hs, Hz⟩
  ihave Hs := (Entails.of_eq ((pay_rx m c k).trans (by unfold slotPts; rfl))) $$ Hs
  -- the loads, the sum, the store
  iapply (wp_load_rect 𝒱₀ (c : Thread nD τ) none Set.univ (m := xM) (r := rectKeep c k) (S := Finset.univ \ sendAll c)
    ((View.set_slice_whole _ _).subset.trans (keep_subset c k))) $$ Hx
  iintro Hx
  iapply (wp_load_rect 𝒱₀ (c : Thread nD τ) none Set.univ (m := rM) (r := rectSlot k) (S := slotSet k)
    ((View.set_slice_whole _ _).subset.trans (slot_set k).symm.subset)) $$ Hs
  iintro Hs
  iapply (wp_load_rect 𝒱₀ (c : Thread nD τ) none Set.univ (m := oM) (r := rectStore c k) (S := outSet c k)
    ((View.set_slice_whole _ _).subset.trans (store_set c k).subset)) $$ Ho
  iintro Ho
  iapply (wp_store 𝒱₀ (c : Thread nD τ) none Set.univ (m := oM) (r := rectStore c k) (Mk := Finset.univ) (S := outSet c k)
    ((View.set_slice_whole _ _).subset.trans (store_set c k).subset)) $$ Ho
  iintro Ho
  ihave Ho := (Entails.of_eq (pointsTo_congr (sum_write m c k fo))) $$ Ho
  -- the sum leaves
  iapply (wp_sendTo m K c _ _ (devY_eq c k) (jk := (2, k)) (jk' := (3, k)) rfl rfl (credit_o c k) fp
    (Entails.refl _)
    (by show _ ⊢ outPts (peerY c) (peerY (peerY c)) k (sumAt m (peerY (peerY c)))
        rw [peerY_peerY]; exact Entails.of_eq (pointsTo_congr (sum_copy m c k fp)))
    (owY c ks) (insert (SemLoc.dma (rx k), ()) W)) $$ [Ho Hp Ht1 Ht2 HO]
  · isplitr; · iexact HR
    isplitl [Ho]; · iexact Ho
    isplitl [Hp]; · iexact Hp
    isplitl [HO]; · iexact HO
    isplitl [Ht1] <;> iassumption
  iintro ⟨Hc, HO⟩
  iapply Hk
  isplitl [Hx]; · iexact Hx
  isplitr [HO]
  · isplitl [Hs]; · iexact Hs
    isplitl [Hz] <;> iassumption
  · iexists _; iexact HO

/-! ## The third phase -/

/-- What the closing waits of chunk `k` need; -/
def preD (c : Dev nD) (k : Fin 32) : sProp 𝕄 :=
  iprop((cred (tallyAt (sxCell c k) () N) ∗ atPos ER (sxCell c k) 0 ∅ 0) ∗ (cred (tallyAt (syCell c k) () N) ∗ atPos ER (syCell c k) 0 ∅ 0)
    ∗ (cred (tallyAt (ryCell c k) () N) ∗ atPos ER (ryCell c k) 0 ∅ 0))
/-- and leave: the rows sent, both devices' rows of the result, the three used cells. -/
def postD (c : Dev nD) (k : Fin 32) : sProp 𝕄 :=
  iprop((sendPts c k (xstg m c) ∗ semVal (sxCell c k) 0) ∗ (outPts c c k (sumAt m c) ∗ semVal (syCell c k) 0)
    ∗ (outPts c (peerY c) k (sumAt m (peerY c)) ∗ semVal (ryCell c k) 0))

theorem wp_drain (c : Dev nD) (k : Fin 32) (W : Waits sig Unit) (rest : P F) (Q : PUnit → sProp 𝕄) :
    iprop(records m K ∗ preD c k ∗ owes (c : Thread nD τ) 0 W)
      ⊢ iprop(((postD m c k ∗ ∃ W', owes (c : Thread nD τ) 0 W')
            -∗ wp frame (wpE (defs₀ (F := F)) 𝒱₀ (c : Thread nD τ) none) Set.univ rest Q)
          -∗ wp frame (wpE (defs₀ (F := F)) 𝒱₀ (c : Thread nD τ) none) Set.univ (drain c k >>= fun _ => rest) Q) := by
  unfold drain preD postD
  simp only [Prog.lift, Prog.bind_op, Prog.bind_ret, Prog.pure_eq_ret]
  iintro ⟨#HR, ⟨⟨Hc0, Ha0⟩, ⟨Hc2, Ha2⟩, ⟨Hc3, Ha3⟩⟩, HO⟩ Hk
  iapply (wp_waitCell m K c (jk := (0, k)) rfl (rSl k) (xSl c k) (credit_x c k) 0 W) $$ [Hc0 HO Ha0]
  · isplitr; · iexact HR
    isplitl [Hc0]; · iexact Hc0
    isplitl [HO]; · iexact HO
    isplitr; · rw [MayWait_zero]; iempintro
    iexact Ha0
  iintro ⟨HO, Hx, Hz0⟩
  ihave Hx := (Entails.of_eq (pay_sx m c k)) $$ Hx
  iapply (wp_waitCell m K c (jk := (2, k)) rfl (oSl c k) (oSl c k) (credit_o c k) 0 _) $$ [Hc2 HO Ha2]
  · isplitr; · iexact HR
    isplitl [Hc2]; · iexact Hc2
    isplitl [HO]; · iexact HO
    isplitr; · rw [MayWait_zero]; iempintro
    iexact Ha2
  iintro ⟨HO, Ho, Hz2⟩
  ihave Ho := (Entails.of_eq (pay_sy m c k)) $$ Ho
  iapply (wp_waitCell m K c (jk := (3, k)) rfl (oSl c k) (oSl c k) (credit_o c k) 0 _) $$ [Hc3 HO Ha3]
  · isplitr; · iexact HR
    isplitl [Hc3]; · iexact Hc3
    isplitl [HO]; · iexact HO
    isplitr; · rw [MayWait_zero]; iempintro
    iexact Ha3
  iintro ⟨HO, Hp, Hz3⟩
  ihave Hp := (Entails.of_eq (pay_ry m c k)) $$ Hp
  iapply Hk
  isplitr [HO]
  · isplitl [Hx Hz0]
    · isplitl [Hx]; · iexact Hx
      iexact Hz0
    isplitl [Ho Hz2]
    · isplitl [Ho]; · iexact Ho
      iexact Hz2
    isplitl [Hp]; · iexact Hp
    iexact Hz3
  · iexists _; iexact HO

end Cert.KernelIdeal.Body

end

end
-- ==== Proof.Memory.lean ====
/-
# The buffers, cut and put together

The input block is the parts sent, chunk by chunk, and the rest; the receive scratch is its slots; the result is the
rows the device computes and the rows its second-axis peer computes, each chunk by chunk.
-/
module

public import proofs.«01_k».proof.Proof.Steps
public import Idealize.ShloMosaic.Lib.Ring

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The input block -/

theorem sends_eq (c : Dev nD) :
    (((c : Thread nD τ).loc cc0_stg0_0) ↦[sendAll c]{fullShare} xstg m c : sProp 𝕄) = bigSep Finset.univ fun k => sendPts c k (xstg m c) :=
  Ring.pointsTo_sub_blocks (ℓ := (c : Thread nD τ).loc cc0_stg0_0) (fun k : Fin 32 => sendSet c k) (send_disjoint c) (sendAll c) rfl (xstg m c)

theorem x_split (c : Dev nD) :
    (((c : Thread nD τ).loc cc0_stg0_0) ↦{fullShare} xstg m c : sProp 𝕄)
      ⊢ iprop((bigSep Finset.univ fun k => sendPts c k (xstg m c)) ∗ keepPts m c) := by
  rw [← sends_eq]; exact (pointsTo_split_subset (Finset.subset_univ (sendAll c))).1

theorem x_join (c : Dev nD) :
    iprop((bigSep Finset.univ fun k => sendPts c k (xstg m c)) ∗ keepPts m c)
      ⊢ (((c : Thread nD τ).loc cc0_stg0_0) ↦{fullShare} xstg m c : sProp 𝕄) := by
  rw [← sends_eq]; exact (pointsTo_split_subset (Finset.subset_univ (sendAll c))).2

/-! ## The receive scratch -/

theorem slots_eq (c : Dev nD) (f : (cc0_scratch0 : Ref sig .tc).ty.Contents (Elt F)) :
    (((c : Thread nD τ).loc cc0_scratch0) ↦{fullShare} f : sProp 𝕄) = bigSep Finset.univ fun k => slotPts c k f :=
  Ring.pointsTo_blocks (ℓ := (c : Thread nD τ).loc cc0_scratch0) (fun k : Fin 32 => slotSet k) slot_disjoint slot_cover f

theorem slots_any (c : Dev nD) (f : (cc0_scratch0 : Ref sig .tc).ty.Contents (Elt F)) :
    (((c : Thread nD τ).loc cc0_scratch0) ↦{fullShare} f : sProp 𝕄) ⊢ anySlots c := by
  rw [slots_eq]; unfold anySlots
  exact bigSep_mono fun k _ => show (slotPts c k f : sProp 𝕄) ⊢ iprop(∃ f, slotPts c k f) from by iintro H; iexists f; iexact H

/-! ## The result -/

theorem rows_eq (c d : Dev nD) (f : (cc0_stg1_0 : Ref sig .tc).ty.Contents (Elt F)) :
    (((c : Thread nD τ).loc cc0_stg1_0) ↦[outAll d]{fullShare} f : sProp 𝕄) = bigSep Finset.univ fun k => outPts c d k f :=
  Ring.pointsTo_sub_blocks (ℓ := (c : Thread nD τ).loc cc0_stg1_0) (fun k : Fin 32 => outSet d k) (out_disjoint d) (outAll d) rfl f

theorem rows_congr (c d : Dev nD) {f g : (cc0_stg1_0 : Ref sig .tc).ty.Contents (Elt F)} (h : ∀ y ∈ outAll d, f y = g y) :
    (((c : Thread nD τ).loc cc0_stg1_0) ↦[outAll d]{fullShare} f : sProp 𝕄) = (((c : Thread nD τ).loc cc0_stg1_0) ↦[outAll d]{fullShare} g) :=
  pointsTo_congr h

theorem rows_any (c d : Dev nD) (f : (cc0_stg1_0 : Ref sig .tc).ty.Contents (Elt F)) :
    (((c : Thread nD τ).loc cc0_stg1_0) ↦[outAll d]{fullShare} f : sProp 𝕄) ⊢ anyRows c d := by
  rw [rows_eq]; unfold anyRows
  exact bigSep_mono fun k _ => show (outPts c d k f : sProp 𝕄) ⊢ iprop(∃ f, outPts c d k f) from by iintro H; iexists f; iexact H

theorem out_halves (c : Dev nD) (f : (cc0_stg1_0 : Ref sig .tc).ty.Contents (Elt F)) :
    (((c : Thread nD τ).loc cc0_stg1_0) ↦{fullShare} f : sProp 𝕄)
      ⊣⊢ iprop((((c : Thread nD τ).loc cc0_stg1_0) ↦[outAll c]{fullShare} f) ∗ (((c : Thread nD τ).loc cc0_stg1_0) ↦[outAll (peerY c)]{fullShare} f)) := by
  have h := pointsTo_union (Ix := Unit) (Name := ℕ) (U := UU) (Lvl := ℕ) (ℓ := (c : Thread nD τ).loc cc0_stg1_0) (q := fullShare) (f := f) (outAll_disjoint c)
  rw [outAll_cover c] at h
  exact h

theorem out_split (c : Dev nD) (f : (cc0_stg1_0 : Ref sig .tc).ty.Contents (Elt F)) :
    (((c : Thread nD τ).loc cc0_stg1_0) ↦{fullShare} f : sProp 𝕄) ⊢ iprop(anyRows c c ∗ anyRows c (peerY c)) :=
  (out_halves c f).1.trans (BIClass.sep_mono (rows_any c c f) (rows_any c (peerY c) f))

theorem out_join (c : Dev nD) :
    iprop((bigSep Finset.univ fun k => outPts c c k (sumAt m c)) ∗ (bigSep Finset.univ fun k => outPts c (peerY c) k (sumAt m (peerY c))))
      ⊢ (((c : Thread nD τ).loc cc0_stg1_0) ↦{fullShare} outAt m c : sProp 𝕄) := by
  rw [← rows_eq c c (sumAt m c), ← rows_eq c (peerY c) (sumAt m (peerY c)), rows_congr c c (outAt_own m c), rows_congr c (peerY c) (outAt_other m c)]
  exact (out_halves c (outAt m c)).2

end Cert.KernelIdeal.Body

end

end
-- ==== Proof.Body.lean ====
/-
# The body, run

The phases over all chunks, by induction on the list of chunks, and with them the whole body of one device, from what
the launch hands it to what it leaves.
-/
module

public import proofs.«01_k».proof.Proof.Memory
public import proofs.«01_k».proof.Proof.Gen.KernelIdeal.Launch
public import proofs.«01_k».proof.Proof.Gen.KernelIdeal.Points

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A family over all chunks, listed in the program's order. -/
theorem over_chunks (Φ : Fin 32 → sProp 𝕄) : bigSep Finset.univ Φ = bigSepL chunks Φ :=
  bigSep_univ_eq_bigSepL chunks (by decide) (by decide) Φ

/-! ## The phases -/

section Phases

variable (K : Dev nD × Kd → ℕ) (c : Dev nD) (rest : P F)

theorem wp_phaseX (Q : PUnit → sProp 𝕄) (ks : List (Fin 32)) (W : Waits sig Unit) :
    iprop(records m K ∗ bigSepL ks (preX m c) ∗ owes (c : Thread nD τ) (owX c ks) W)
      ⊢ iprop(((bigSepL ks (postX c) ∗ owes (c : Thread nD τ) (owY c chunks) W)
            -∗ wp frame (wpE (defs₀ (F := F)) 𝒱₀ (c : Thread nD τ) none) Set.univ rest Q)
          -∗ wp frame (wpE (defs₀ (F := F)) 𝒱₀ (c : Thread nD τ) none) Set.univ (overList (sendX c) ks rest) Q) := by
  induction ks generalizing W with
  | nil =>
    iintro ⟨#HR, Hp, HO⟩ Hk
    iapply Hk
    isplitl [Hp]; · iexact Hp
    iexact HO
  | cons k ks ih =>
    rw [bigSepL_cons', bigSepL_cons']
    iintro ⟨#HR, ⟨Hk0, Hp⟩, HO⟩ Hk
    iapply (wp_sendX m K c k (owX c ks) W) $$ [Hk0 HO]
    · isplitr; · iexact HR
      isplitl [Hk0]; · iexact Hk0
      iexact HO
    iintro ⟨Hc, HO⟩
    iapply (ih W) $$ [Hp HO]
    · isplitr; · iexact HR
      isplitl [Hp]; · iexact Hp
      iexact HO
    iintro ⟨Hcs, HO⟩
    iapply Hk
    isplitr [HO]
    · isplitl [Hc]; · iexact Hc
      iexact Hcs
    iexact HO

theorem wp_phaseA (Q : PUnit → sProp 𝕄) (ks : List (Fin 32)) (W : Waits sig Unit) :
    iprop(records m K ∗ levAts L lv ∗ keepPts m c ∗ bigSepL ks (preA c) ∗ owes (c : Thread nD τ) (owY c ks) W)
      ⊢ iprop(((keepPts m c ∗ bigSepL ks (postA m c) ∗ ∃ W', owes (c : Thread nD τ) 0 W')
            -∗ wp frame (wpE (defs₀ (F := F)) 𝒱₀ (c : Thread nD τ) none) Set.univ rest Q)
          -∗ wp frame (wpE (defs₀ (F := F)) 𝒱₀ (c : Thread nD τ) none) Set.univ (overList (addSend c) ks rest) Q) := by
  induction ks generalizing W with
  | nil =>
    iintro ⟨#HR, #Hlev, Hx, Hp, HO⟩ Hk
    iapply Hk
    isplitl [Hx]; · iexact Hx
    isplitl [Hp]; · iexact Hp
    iexists W; iexact HO
  | cons k ks ih =>
    rw [bigSepL_cons', bigSepL_cons']
    iintro ⟨#HR, #Hlev, Hx, ⟨Hk0, Hp⟩, HO⟩ Hk
    iapply (wp_addSend m K c k ks W) $$ [Hx Hk0 HO]
    · isplitr; · iexact HR
      isplitr; · iexact Hlev
      isplitl [Hx]; · iexact Hx
      isplitl [Hk0]; · iexact Hk0
      iexact HO
    iintro ⟨Hx, Hc, ⟨%W', HO⟩⟩
    iapply (ih W') $$ [Hx Hp HO]
    · isplitr; · iexact HR
      isplitr; · iexact Hlev
      isplitl [Hx]; · iexact Hx
      isplitl [Hp]; · iexact Hp
      iexact HO
    iintro ⟨Hx, Hcs, HO⟩
    iapply Hk
    isplitl [Hx]; · iexact Hx
    isplitr [HO]
    · isplitl [Hc]; · iexact Hc
      iexact Hcs
    iexact HO

theorem wp_phaseD (Q : PUnit → sProp 𝕄) (ks : List (Fin 32)) (W : Waits sig Unit) :
    iprop(records m K ∗ bigSepL ks (preD c) ∗ owes (c : Thread nD τ) 0 W)
      ⊢ iprop(((bigSepL ks (postD m c) ∗ ∃ W', owes (c : Thread nD τ) 0 W')
            -∗ wp frame (wpE (defs₀ (F := F)) 𝒱₀ (c : Thread nD τ) none) Set.univ rest Q)
          -∗ wp frame (wpE (defs₀ (F := F)) 𝒱₀ (c : Thread nD τ) none) Set.univ (overList (drain c) ks rest) Q) := by
  induction ks generalizing W with
  | nil =>
    iintro ⟨#HR, Hp, HO⟩ Hk
    iapply Hk
    isplitl [Hp]; · iexact Hp
    iexists W; iexact HO
  | cons k ks ih =>
    rw [bigSepL_cons', bigSepL_cons']
    iintro ⟨#HR, ⟨Hk0, Hp⟩, HO⟩ Hk
    iapply (wp_drain m K c k W) $$ [Hk0 HO]
    · isplitr; · iexact HR
      isplitl [Hk0]; · iexact Hk0
      iexact HO
    iintro ⟨Hc, ⟨%W', HO⟩⟩
    iapply (ih W') $$ [Hp HO]
    · isplitr; · iexact HR
      isplitl [Hp]; · iexact Hp
      iexact HO
    iintro ⟨Hcs, HO⟩
    iapply Hk
    isplitr [HO]
    · isplitl [Hc]; · iexact Hc
      iexact Hcs
    iexact HO

end Phases

/-! ## The phases' needs and yields, kind by kind -/

theorem preX_all (c : Dev nD) : bigSepL chunks (preX m c) = iprop((bigSep Finset.univ fun k => sendPts c k (xstg m c)) ∗ anySlots (peerX c)
    ∗ (bigSep Finset.univ fun k => dutyTok ER (sxCell c k) 0 false) ∗ (bigSep Finset.univ fun k => dutyTok ER (rxCell (peerX c) k) 0 false)) := by
  rw [← over_chunks]; unfold preX anySlots; simp only [bigSep_sep']
theorem preA_all (c : Dev nD) : (bigSepL chunks (preA c) : sProp 𝕄) = iprop((bigSep Finset.univ fun k => cred (tallyAt (rxCell c k) () N))
    ∗ (bigSep Finset.univ fun k => atPos ER (rxCell c k) 0 ∅ 0) ∗ anyRows c c ∗ anyRows (peerY c) c
    ∗ (bigSep Finset.univ fun k => dutyTok ER (syCell c k) 0 false) ∗ (bigSep Finset.univ fun k => dutyTok ER (ryCell (peerY c) k) 0 false)) := by
  rw [← over_chunks]; unfold preA anyRows; simp only [bigSep_sep']
theorem postA_all (c : Dev nD) : bigSepL chunks (postA m c) = iprop((bigSep Finset.univ fun k => slotPts c k (landed m c))
    ∗ (bigSep Finset.univ fun k => semVal (rxCell c k) 0) ∗ (bigSepL chunks fun k => cred (tallyAt (syCell c k) () N))) := by
  rw [← over_chunks, ← over_chunks]; unfold postA; simp only [bigSep_sep']
theorem preD_all (c : Dev nD) : (bigSepL chunks (preD c) : sProp 𝕄) = iprop(
    (bigSepL chunks (postX c) ∗ (bigSep Finset.univ fun k => atPos ER (sxCell c k) 0 ∅ 0))
    ∗ ((bigSepL chunks fun k => cred (tallyAt (syCell c k) () N)) ∗ (bigSep Finset.univ fun k => atPos ER (syCell c k) 0 ∅ 0))
    ∗ ((bigSep Finset.univ fun k => cred (tallyAt (ryCell c k) () N)) ∗ (bigSep Finset.univ fun k => atPos ER (ryCell c k) 0 ∅ 0))) := by
  rw [← over_chunks, ← over_chunks, ← over_chunks]; unfold preD postX; simp only [bigSep_sep']
theorem postD_all (c : Dev nD) : bigSepL chunks (postD m c) = iprop(
    ((bigSep Finset.univ fun k => sendPts c k (xstg m c)) ∗ (bigSep Finset.univ fun k => semVal (sxCell c k) 0))
    ∗ ((bigSep Finset.univ fun k => outPts c c k (sumAt m c)) ∗ (bigSep Finset.univ fun k => semVal (syCell c k) 0))
    ∗ ((bigSep Finset.univ fun k => outPts c (peerY c) k (sumAt m (peerY c))) ∗ (bigSep Finset.univ fun k => semVal (ryCell c k) 0))) := by
  rw [← over_chunks]; unfold postD; simp only [bigSep_sep']

/-! ## What a device starts from and ends with -/

/-- A device's places on its own cells; -/
def places (c : Dev nD) : sProp 𝕄 :=
  iprop(atPos ER (barCell c) 0 ∅ 0 ∗ (bigSep Finset.univ fun k => atPos ER (sxCell c k) 0 ∅ 0) ∗ (bigSep Finset.univ fun k => atPos ER (rxCell c k) 0 ∅ 0)
    ∗ (bigSep Finset.univ fun k => atPos ER (syCell c k) 0 ∅ 0) ∗ (bigSep Finset.univ fun k => atPos ER (ryCell c k) 0 ∅ 0))
/-- the rights to pay it uses: both peers' barriers, its sends, the peers' receives. -/
def payToks (c : Dev nD) : sProp 𝕄 :=
  iprop(dutyTok ER (barCell (peerX c)) 0 false ∗ dutyTok ER (barCell (peerY c)) 0 true
    ∗ (bigSep Finset.univ fun k => dutyTok ER (sxCell c k) 0 false) ∗ (bigSep Finset.univ fun k => dutyTok ER (rxCell (peerX c) k) 0 false)
    ∗ (bigSep Finset.univ fun k => dutyTok ER (syCell c k) 0 false) ∗ (bigSep Finset.univ fun k => dutyTok ER (ryCell (peerY c) k) 0 false))
def ghost (K : Dev nD × Kd → ℕ) (c : Dev nD) : sProp 𝕄 := iprop(records m K ∗ places c ∗ payToks c)

/-- The credits of what arrives without its own doing. -/
def credits (c : Dev nD) : sProp 𝕄 :=
  iprop(cred (tallyAt (barCell c) () 2) ∗ (bigSep Finset.univ fun k => cred (tallyAt (rxCell c k) () N)) ∗ (bigSep Finset.univ fun k => cred (tallyAt (ryCell c k) () N)))

def start (c : Dev nD) : sProp 𝕄 := iprop((∃ K, ghost m K c) ∗ credits c ∗ levAts L lv)

/-- The receive scratch, whole. -/
def scrPts (c : Dev nD) (f : (cc0_scratch0 : Ref sig .tc).ty.Contents (Elt F)) : sProp 𝕄 := ((c : Thread nD τ).loc cc0_scratch0) ↦{fullShare} f

/-- All the device's own DMA cells at zero. -/
def zeros (c : Dev nD) : sProp 𝕄 :=
  iprop((bigSep Finset.univ fun k => semVal (sxCell c k) 0) ∗ (bigSep Finset.univ fun k => semVal (rxCell c k) 0)
    ∗ (bigSep Finset.univ fun k => semVal (syCell c k) 0) ∗ (bigSep Finset.univ fun k => semVal (ryCell c k) 0))

def Φ₀ (c : Dev nD) : sProp 𝕄 := iprop(start m c ∗ ∃ f, scrPts c f)
/-- After the body: the scratch with the landed chunks, every cell at zero. -/
def Φ₁ (c : Dev nD) : sProp 𝕄 := iprop(scrPts c (landed m c) ∗ zeros c ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Kd → ℕ) (c : Dev nD) : sProp 𝕄 :=
  iprop((ghost m K c ∗ credits c ∗ levAts L lv ∗ ∃ f, scrPts c f)
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (outAt m c))

/-! ## The body -/

/-- The handshake: a unit to each peer's barrier with the pieces of the own buffers that peer will write, then both
    peers' units, with the pieces of their buffers. -/
theorem wp_handshake (K : Dev nD × Kd → ℕ) (c n n' : Dev nD) (hn : n = peerX c) (hn' : n' = peerY c) (W : Waits sig Unit) (rest : P F) (Q : PUnit → sProp 𝕄) :
    iprop(records m K ∗ levAts L lv ∗ anySlots c ∗ anyRows c (peerY c) ∗ cred (tallyAt (barCell c) () 2) ∗ atPos ER (barCell c) 0 ∅ 0
        ∗ dutyTok ER (barCell (peerX c)) 0 false ∗ dutyTok ER (barCell (peerY c)) 0 true ∗ owes (c : Thread nD τ) (O₀ c) W)
      ⊢ iprop(((anySlots (peerX c) ∗ anyRows (peerY c) c ∗ semVal (barCell c) 0 ∗ owes (c : Thread nD τ) (owX c chunks) (insert (SemLoc.reg barS, ()) W))
            -∗ wp frame (wpE (defs₀ (F := F)) 𝒱₀ (c : Thread nD τ) none) Set.univ rest Q)
          -∗ wp frame (wpE (defs₀ (F := F)) 𝒱₀ (c : Thread nD τ) none) Set.univ
              (semSignalWord n barS 1#32 >>= fun _ => semSignalWord n' barS 1#32 >>= fun _ => semWaitWord barS 2#32 >>= fun _ => rest) Q) := by
  subst hn hn'
  simp only [semSignalWord, semWaitWord, Prog.lift, Prog.bind_op, Prog.bind_ret, Prog.pure_eq_ret]
  unfold O₀
  iintro ⟨#HR, #Hlev, Hs, Hr, Hc, Hat, Ht1, Ht2, HO⟩ Hk
  iapply (Rounds.wp_signal 𝒱₀ ER (sched m) (c : Thread nD τ) none (dst := (peerX c : Thread nD τ)) (κ := K (peerX c, none))
      (d := false) (duty_bar m (peerX c) false) ((amount_at m (peerX c) kindOf_bar false).trans (by decide)) () (O₁ c) rfl) $$ [HO Ht1 Hs]
  · isplitr; · iapply (inv_at m K (peerX c) none); iexact HR
    isplitl [HO]; · iexact HO
    isplitl [Ht1]; · iexact Ht1
    isplitl [Hs]
    · rw [payload_at m (peerX c) kindOf_bar false, show payK m (peerX c) (some none) false = anySlots (peerX (peerX c)) from rfl, peerX_peerX]
      iexact Hs
    iapply (reached_at m K (peerX c) none); iexact HR
  iintro HO
  unfold O₁
  iapply (Rounds.wp_signal 𝒱₀ ER (sched m) (c : Thread nD τ) none (dst := (peerY c : Thread nD τ)) (κ := K (peerY c, none))
      (d := true) (duty_bar m (peerY c) true) ((amount_at m (peerY c) kindOf_bar true).trans (by decide)) () (owX c chunks) rfl) $$ [HO Ht2 Hr]
  · isplitr; · iapply (inv_at m K (peerY c) none); iexact HR
    isplitl [HO]; · iexact HO
    isplitl [Ht2]; · iexact Ht2
    isplitl [Hr]
    · rw [payload_at m (peerY c) kindOf_bar true, show payK m (peerY c) (some none) true = anyRows (peerY (peerY c)) (peerY c) from rfl, peerY_peerY]
      iexact Hr
    iapply (reached_at m K (peerY c) none); iexact HR
  iintro HO
  iapply (Rounds.wp_wait_rest_token 𝒱₀ ER (sched m) (c : Thread nD τ) none (κ := K (c, none))
      (wpE_semWait_eq 𝒱₀ (c : Thread nD τ) none Set.univ) (Set.mem_univ _) () (O := owX c chunks) (W := W) (R := 0) (m := 0) (T := ∅)
      (by rw [expect_bar]; decide)) $$ [Hc HO Hat]
  · isplitr; · iapply (inv_at m K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨Hs, Hr⟩
  imod (Rounds.cell_close ER (sched m) (Set.mem_univ (K (c, none))) (fun h => h) (R := 0 + 1) (duties_later m _)) $$ [Hat] with Hz
  · isplitr; · iapply (inv_at m K c none); iexact HR
    iexact Hat
  iapply Hk
  isplitl [Hs]; · iexact Hs
  isplitl [Hr]; · iexact Hr
  isplitl [Hz]; · iexact Hz
  iexact HO

/-- The body from `bodyPre` to `bodyPost`. -/
theorem sound_body (K : Dev nD × Kd → ℕ) (c : Dev nD) (Kt : PUnit → sProp 𝕄) :
    iprop(bodyPre m K c ∗ (bodyPost m c -∗ Kt ⟨⟩))
      ⊢ wp frame (wpE (defs₀ (F := F)) 𝒱₀ c none) Set.univ (body (F := F)) Kt := by
  unfold body
  rw [show (Prog.lift .deviceId : Prog (TpuEff nD τ sig (Elt F) Λ₀ .tc) (Dev nD)) = .op .deviceId .ret from rfl]
  simp only [Prog.bind_op, Prog.bind_ret, wp_deviceId]
  unfold bodyPre ghost places payToks credits scrPts
  iintro ⟨⟨⟨⟨#HR, ⟨HaB, HaSX, HaRX, HaSY, HaRY⟩, HtBX, HtBY, HtSX, HtRX, HtSY, HtRY⟩, ⟨HcB, HcRX, HcRY⟩, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  ihave Hx := (x_split m c) $$ Hx
  icases Hx with ⟨Hsend, Hkeep⟩
  ihave Hslots := (slots_any c f0) $$ Hscr
  ihave Hout := (out_split c g1) $$ Hout
  icases Hout with ⟨Hown, Hoth⟩
  -- the handshake
  iapply (wp_handshake m K c _ _ (dev1_eq c) (dev2_eq c) W) $$ [HcB HaB HtBX HtBY Hslots Hoth HO]
  · isplitr; · iexact HR
    isplitr; · iexact Hlev
    isplitl [Hslots]; · iexact Hslots
    isplitl [Hoth]; · iexact Hoth
    isplitl [HcB]; · iexact HcB
    isplitl [HaB]; · iexact HaB
    isplitl [HtBX]; · iexact HtBX
    isplitl [HtBY]; · iexact HtBY
    iexact HO
  iintro ⟨Hslots, Hrows, HzB, HO⟩
  -- the first phase
  iapply (wp_phaseX m K c _ _ chunks _) $$ [Hsend Hslots HtSX HtRX HO]
  · isplitr; · iexact HR
    isplitr [HO]
    · rw [preX_all]
      isplitl [Hsend]; · iexact Hsend
      isplitl [Hslots]; · iexact Hslots
      isplitl [HtSX]; · iexact HtSX
      iexact HtRX
    iexact HO
  iintro ⟨HcSX, HO⟩
  -- the second phase
  iapply (wp_phaseA m K c _ _ chunks _) $$ [Hkeep HcRX HaRX Hown Hrows HtSY HtRY HO]
  · isplitr; · iexact HR
    isplitr; · iexact Hlev
    isplitl [Hkeep]; · iexact Hkeep
    isplitr [HO]
    · rw [preA_all]
      isplitl [HcRX]; · iexact HcRX
      isplitl [HaRX]; · iexact HaRX
      isplitl [Hown]; · iexact Hown
      isplitl [Hrows]; · iexact Hrows
      isplitl [HtSY]; · iexact HtSY
      iexact HtRY
    iexact HO
  iintro ⟨Hkeep, Hpost, ⟨%W', HO⟩⟩
  ihave Hpost := (Entails.of_eq (postA_all m c)) $$ Hpost
  icases Hpost with ⟨Hslots, HzRX, HcSY⟩
  -- the third phase
  iapply (wp_phaseD m K c _ _ chunks W') $$ [HcSX HaSX HcSY HaSY HcRY HaRY HO]
  · isplitr; · iexact HR
    isplitr [HO]
    · rw [preD_all]
      isplitl [HcSX HaSX]
      · isplitl [HcSX]; · iexact HcSX
        iexact HaSX
      isplitl [HcSY HaSY]
      · isplitl [HcSY]; · iexact HcSY
        iexact HaSY
      isplitl [HcRY]; · iexact HcRY
      iexact HaRY
    iexact HO
  iintro ⟨Hpost, ⟨%W'', HO⟩⟩
  ihave Hpost := (Entails.of_eq (postD_all m c)) $$ Hpost
  icases Hpost with ⟨⟨Hsend, HzSX⟩, ⟨Hown, HzSY⟩, ⟨Hoth, HzRY⟩⟩
  rw [Prog.pure_eq_ret, wp_ret]; imodintro
  iapply Hk
  ihave Hx := (x_join m c) $$ [Hsend Hkeep]
  · isplitl [Hsend]; · iexact Hsend
    iexact Hkeep
  ihave Hout := (out_join m c) $$ [Hown Hoth]
  · isplitl [Hown]; · iexact Hown
    iexact Hoth
  ihave Hscr := (Entails.of_eq (slots_eq c (landed m c)).symm) $$ Hslots
  unfold bodyPost Φ₁ zeros scrPts Dat.owesAt Pipeline.owesWithin
  rw [show (dats m 0 c).owed t0_0.succ = 0 from rfl]
  isplitl [Hscr HzSX HzRX HzSY HzRY HzB]
  · isplitl [Hscr]; · iexact Hscr
    isplitr [HzB]
    · isplitl [HzSX]; · iexact HzSX
      isplitl [HzRX]; · iexact HzRX
      isplitl [HzSY]; · iexact HzSY
      iexact HzRY
    iexact HzB
  isplitl [HO]
  · iexists W''
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- The body the pipeline calls at its one point is the loop form. -/
theorem body_at : defs₀ (F := F) .tc 0 (t0_0, cfg0.slots t0_0) = body :=
  (show defs₀ (F := F) .tc 0 (t0_0, cfg0.slots t0_0)
    = cc0_body (F := F) (Memref.whole cc0_stg0_0) (Memref.isWhole_whole _) (Memref.whole cc0_stg1_0) (Memref.isWhole_whole _)
        (Memref.whole cc0_scratch0) (Memref.isWhole_whole _) cc0_scratch1 cc0_scratch2 cc0_scratch3 cc0_scratch4 from rfl).trans body_eq

theorem bodyPost_eq (c : Dev nD) : bodyPost m c = iprop(Φ₁ m c ∗ (dats m 0 c).owesAt () t0_0.succ
    ∗ (∃ f : Buf (Elt F) ((c : Thread nD τ).loc cc0_stg0_0), ⌜f = xstg m c⌝ ∗ (((c : Thread nD τ).loc cc0_stg0_0) ↦{fullShare} f))
    ∗ (∃ f : Buf (Elt F) ((c : Thread nD τ).loc cc0_stg1_0), ⌜f = outAt m c⌝ ∗ (((c : Thread nD τ).loc cc0_stg1_0) ↦{fullShare} f))) := rfl

/-- The launch's obligation for the body on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  rw [body_at, show (dats m 0 c).Φ t0_0.succ = Φ₁ m c from rfl, show (dats m 0 c).after 0 t0_0 = xstg m c from rfl,
    show (dats m 0 c).after 1 t0_0 = outAt m c from rfl, ← bodyPost_eq]
  show bodyPre' m c ⊢ _
  unfold bodyPre' Φ₀ start
  iintro ⟨⟨⟨⟨%K, Hg⟩, Hc, Hlev⟩, Hscr⟩, Ho, Hx, Hout⟩
  iapply (sound_body m K c fun _ => bodyPost m c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx]; · iexact Hx
    iexact Hout
  · iintro H; iexact H

end Cert.KernelIdeal.Body

end

end
-- ==== Proof.Run.lean ====
/-
# The launch

The launch gives every cell its invariant, deals the rights to pay to the devices that pay, and the credits to the
devices that wait; with the body's run this is the run of the whole program on the mesh.
-/
module

public import proofs.«01_k».proof.Proof.Body

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens -/

/-- The kernel's own semaphores: the DMA ones of every kind and chunk. -/
abbrev osem (jk : Fin 4 × Fin 32) : SemLoc sig := .dma (dsem jk)

theorem ownSemFacts : Pipeline.OwnSemFacts cfg0.spec osem := by decide +kernel

theorem share_eq (c : Dev nD) (w : Fin cfg0.W) : (dats m 0 c).share w = fullShare := by unfold Dat.share; split <;> rfl

theorem kcell_injective : Function.Injective (kcell : Dev nD × Kd → GSem nD τ sig) := by
  rintro ⟨c, κ⟩ ⟨c', κ'⟩ h
  have h1 : c = c' := congrArg (fun g : GSem nD τ sig => g.1.1) h
  have h2 : κ = κ' := csem_injective (congrArg Prod.snd h)
  rw [h1, h2]
def allCells : Finset (GSem nD τ sig) := Finset.univ.map ⟨kcell, kcell_injective⟩

/-- A device's own cells' tokens: two for the barrier, one for each DMA cell. -/
abbrev Tk : Type := Bool ⊕ (Fin 4 × Fin 32)
def tokOf : Dev nD × Tk → GSem nD τ sig × ℕ × Bool
  | (c, .inl b) => (kcell (c, none), 0, b)
  | (c, .inr jk) => (kcell (c, some jk), 0, false)
theorem tokOf_injective : Function.Injective tokOf := by
  rintro ⟨c, b | jk⟩ ⟨c', b' | jk'⟩ h
  · have h1 := kcell_injective (congrArg Prod.fst h)
    have h2 : b = b' := congrArg (fun x : GSem nD τ sig × ℕ × Bool => x.2.2) h
    rw [h2, (Prod.mk.inj h1).1]
  · exact absurd (Prod.mk.inj (kcell_injective (congrArg Prod.fst h))).2 nofun
  · exact absurd (Prod.mk.inj (kcell_injective (congrArg Prod.fst h))).2 nofun
  · have h1 := Prod.mk.inj (kcell_injective (congrArg Prod.fst h))
    rw [h1.1, Option.some.inj h1.2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-! ## Families over the kinds, spelt out -/

theorem bigSep_pairs (Φ : Fin 4 × Fin 32 → sProp 𝕄) :
    bigSep Finset.univ Φ = iprop((bigSep Finset.univ fun k : Fin 32 => Φ (0, k)) ∗ (bigSep Finset.univ fun k : Fin 32 => Φ (1, k))
      ∗ (bigSep Finset.univ fun k : Fin 32 => Φ (2, k)) ∗ (bigSep Finset.univ fun k : Fin 32 => Φ (3, k))) := by
  rw [bigSep_univ_prod, bigSep_univ_eq_bigSepL [0, 1, 2, 3] (by decide) (by decide)]; rfl

/-- A family over kinds: the barrier's member and those of the DMA cells. -/
theorem bigSep_kinds (Φ : Kd → sProp 𝕄) : bigSep Finset.univ Φ = iprop(Φ none ∗ bigSep Finset.univ fun jk : Fin 4 × Fin 32 => Φ (some jk)) := by
  rw [bigSep_univ_equiv ((Equiv.sumComm PUnit.{1} (Fin 4 × Fin 32)).trans (Equiv.optionEquivSumPUnit.{0, 0} (Fin 4 × Fin 32)).symm) Φ, bigSep_univ_sum,
    bigSep_univ_of_subsingleton PUnit.unit]
  rfl

theorem places_eq (c : Dev nD) : (bigSep Finset.univ fun κ : Kd => (atPos ER (kcell (c, κ)) 0 ∅ 0 : sProp 𝕄)) = places c := by
  rw [bigSep_kinds, bigSep_pairs]; rfl

theorem zeros_eq (c : Dev nD) : (Pipeline.ownSems0 (Ix := Unit) (Name := ℕ) (U := UU) (Lvl := ℕ) (Val := Elt F) (τ := τ) osem c : sProp 𝕄) = zeros c := by
  unfold Pipeline.ownSems0; rw [bigSep_pairs]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun κ : Kd => semVal (kcell (c, κ)) 0 : sProp 𝕄) := by
  rw [unscopedSems0_eq, bigSep_kinds]
  unfold Pipeline.ownSems0
  iintro ⟨H, HB⟩
  isplitl [HB]; · iexact HB
  iexact H

/-! ## Dealing the tokens -/

/-- The tokens of a device's own cells. -/
def toks (c : Dev nD) : sProp 𝕄 := bigSep Finset.univ fun t : Tk => dutyTok ER (tokOf (c, t)).1 (tokOf (c, t)).2.1 (tokOf (c, t)).2.2

theorem toks_eq (c : Dev nD) : (toks c : sProp 𝕄) = iprop((dutyTok ER (barCell c) 0 false ∗ dutyTok ER (barCell c) 0 true)
    ∗ (bigSep Finset.univ fun k => dutyTok ER (sxCell c k) 0 false) ∗ (bigSep Finset.univ fun k => dutyTok ER (rxCell c k) 0 false)
    ∗ (bigSep Finset.univ fun k => dutyTok ER (syCell c k) 0 false) ∗ (bigSep Finset.univ fun k => dutyTok ER (ryCell c k) 0 false)) := by
  unfold toks
  rw [bigSep_univ_sum, bigSep_pairs, bigSep_univ_eq_bigSepL [false, true] (by decide) (by decide)]; rfl

abbrev eqX : Dev nD ≃ Dev nD := Function.Involutive.toPerm peerX peerX_peerX
abbrev eqY : Dev nD ≃ Dev nD := Function.Involutive.toPerm peerY peerY_peerY

/-- The tokens dealt to the devices that pay: a barrier's to the two peers, a receive cell's to the sender. -/
theorem toks_around : (bigSep Finset.univ fun c : Dev nD => (toks c : sProp 𝕄)) ⊢ bigSep Finset.univ fun c : Dev nD => payToks c := by
  rw [bigSep_congr fun c _ => toks_eq c]
  unfold payToks
  rw [bigSep_sep', bigSep_sep', bigSep_sep', bigSep_sep', bigSep_sep', bigSep_sep', bigSep_sep', bigSep_sep', bigSep_sep', bigSep_sep',
    bigSep_univ_equiv eqX (fun c : Dev nD => (dutyTok ER (barCell c) 0 false : sProp 𝕄)),
    bigSep_univ_equiv eqY (fun c : Dev nD => (dutyTok ER (barCell c) 0 true : sProp 𝕄)),
    bigSep_univ_equiv eqX (fun c : Dev nD => (bigSep Finset.univ fun k => dutyTok ER (rxCell c k) 0 false : sProp 𝕄)),
    bigSep_univ_equiv eqY (fun c : Dev nD => (bigSep Finset.univ fun k => dutyTok ER (ryCell c k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

/-! ## The launch's share of a device, and the step that shares the invariants -/

def G (c : Dev nD) : sProp 𝕄 :=
  iprop((bigSep Finset.univ fun κ : Kd => roundState ER (sched m) (kcell (c, κ)) 0)
    ∗ (bigSep Finset.univ fun κ : Kd => iprop(atPos ER (kcell (c, κ)) 0 ∅ 0 ∗ reached ER (kcell (c, κ)) 0)) ∗ toks c)

def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun κ : Kd => Φ (kcell (c, κ)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ : Kd => iprop(∃ n : ℕ, cellInv ER (sched m) n (kcell (c, κ))))
          ∗ (bigSep Finset.univ fun κ : Kd => iprop(atPos ER (kcell (c, κ)) 0 ∅ 0 ∗ reached ER (kcell (c, κ)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun κ : Kd => semVal (kcell (c, κ)) 0) ∗ bigSep Finset.univ fun κ : Kd => roundState ER (sched m) (kcell (c, κ)) 0)
      ⊢ (|={Set.univ}=> bigSep Finset.univ fun κ : Kd => iprop(∃ n : ℕ, cellInv ER (sched m) n (kcell (c, κ))) : sProp 𝕄) from by
        rw [← bigSep_sep']
        exact (bigSep_mono fun κ _ => (Rounds.body_intro ER (sched m) (kcell (c, κ))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem bigSep_with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Kd → ℕ) (c : Dev nD) : iprop(records m K ∗ (places c ∗ payToks c)) ⊢ G' m c := by
  unfold G' ghost
  iintro H
  iexists K; iexact H

theorem regroup :
    (bigSep Finset.univ fun c : Dev nD => iprop((bigSep Finset.univ fun κ : Kd => iprop(∃ n : ℕ, cellInv ER (sched m) n (kcell (c, κ))))
          ∗ (bigSep Finset.univ fun κ : Kd => iprop(atPos ER (kcell (c, κ)) 0 ∅ 0 ∗ reached ER (kcell (c, κ)) 0)) ∗ toks c) : sProp 𝕄)
      ⊢ bigSep Finset.univ (G' m) := by
  rw [bigSep_sep', bigSep_sep', ← bigSep_univ_prod (fun ck : Dev nD × Kd => iprop(∃ n : ℕ, cellInv ER (sched m) n (kcell ck))),
    bigSep_congr (s := Finset.univ) (fun (c : Dev nD) _ => bigSep_sep' Finset.univ (fun κ : Kd => (atPos ER (kcell (c, κ)) 0 ∅ 0 : sProp 𝕄)) (fun κ => reached ER (kcell (c, κ)) 0)),
    bigSep_sep', ← bigSep_univ_prod (fun ck : Dev nD × Kd => (reached ER (kcell ck) 0 : sProp 𝕄)), bigSep_congr fun c _ => places_eq c]
  iintro ⟨HI, ⟨Hat, #HR⟩, Htok⟩
  ihave HK := (BI.bigSep_exists_pi Finset.univ (fun (ck : Dev nD × Kd) (n : ℕ) => (cellInv ER (sched m) n (kcell ck) : sProp 𝕄))) $$ HI
  icases HK with ⟨%K, #HI⟩
  ihave Htk := (toks_around (F := F)) $$ Htok
  iapply (bigSep_with_shared (R := records m K) fun c _ => ghost_intro m K c)
  isplitr
  · unfold records; isplitl; · iexact HI
    iexact HR
  · iapply (Entails.of_eq (bigSep_sep' Finset.univ (fun c : Dev nD => (places c : sProp 𝕄)) payToks).symm)
    isplitl [Hat]; · iexact Hat
    iexact Htk

/-- All devices' semaphores at once: the invariants are made and shared. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Body

end

end
-- ==== Proof.Whole.lean ====
/-
# The run of the whole program

The credits the launch deals match what the devices owe, and the program, run on the mesh from any memory with zero
counters, ends with every result array at its computed contents, the input unchanged and every counter at zero.
-/
module

public import proofs.«01_k».proof.Proof.Run
public import Idealize.ShloMosaic.Lib.Pipeline.CollectiveSegs

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed to a cell -/

theorem kcell_ne {c c' : Dev nD} {κ κ' : Kd} (h : κ ≠ κ') : kcell (c, κ) ≠ kcell (c', κ') :=
  fun e => h (Prod.mk.inj (kcell_injective e)).2

/-- A list's units leave other cells as they were; -/
theorem owL_other {f : Fin 32 → GSem nD τ sig} {base : CellTallies nD τ sig Unit} {g : GSem nD τ sig} (h : ∀ k, f k ≠ g) :
    ∀ ks : List (Fin 32), owL f base ks g () = base g ()
  | [] => rfl
  | k :: ks => by
    unfold owL
    rw [Pi.add_apply, Finsupp.add_apply, owL_other h ks, tallyAt_apply, if_neg fun e => h k e.1.symm, Nat.add_zero]

/-- a listed chunk's cell gets one chunk's units. -/
theorem owL_at {f : Fin 32 → GSem nD τ sig} (hf : Function.Injective f) {base : CellTallies nD τ sig Unit} {k : Fin 32} :
    ∀ {ks : List (Fin 32)}, ks.Nodup → owL f base ks (f k) () = base (f k) () + (if k ∈ ks then N else 0)
  | [], _ => rfl
  | j :: ks, h => by
    unfold owL
    rw [Pi.add_apply, Finsupp.add_apply, owL_at hf (List.nodup_cons.mp h).2, tallyAt_apply]
    by_cases hj : k = j
    · subst hj
      rw [if_neg (List.nodup_cons.mp h).1, if_pos ⟨rfl, rfl⟩, if_pos List.mem_cons_self, Nat.add_zero]
    · have h0 : (if f k = f j ∧ () = () then N else 0) = 0 := if_neg fun e => hj (hf e.1)
      rw [h0, Nat.add_zero]
      by_cases hk : k ∈ ks
      · rw [if_pos hk, if_pos (List.mem_cons_of_mem _ hk)]
      · rw [if_neg hk, if_neg fun e => (List.mem_cons.mp e).elim hj hk]

theorem owed_eq (d : Dev nD) (g : GSem nD τ sig) : O₀ d g () = owX d chunks g () + (tallyAt (barCell (peerY d)) () 1 : CellTallies nD τ sig Unit) g ()
    + (tallyAt (barCell (peerX d)) () 1 : CellTallies nD τ sig Unit) g () := by
  unfold O₀ O₁; rw [Pi.add_apply, Finsupp.add_apply, Pi.add_apply, Finsupp.add_apply]

theorem eq_peerX {c d : Dev nD} : c = peerX d ↔ d = peerX c :=
  ⟨fun h => by rw [h, peerX_peerX], fun h => by rw [h, peerX_peerX]⟩
theorem eq_peerY {c d : Dev nD} : c = peerY d ↔ d = peerY c :=
  ⟨fun h => by rw [h, peerY_peerY], fun h => by rw [h, peerY_peerY]⟩

/-- A unit for a barrier cell, counted at another. -/
theorem bar_unit (c p : Dev nD) : (tallyAt (barCell p) () 1 : CellTallies nD τ sig Unit) (barCell c) () = if c = p then 1 else 0 := by
  rw [tallyAt_apply]
  by_cases h : c = p
  · rw [if_pos h, if_pos ⟨by rw [h], rfl⟩]
  · rw [if_neg h, if_neg fun e => h (Prod.mk.inj (kcell_injective (a₁ := (c, none)) (a₂ := (p, none)) e.1)).1]

theorem owed_bar (d c : Dev nD) : O₀ d (barCell c) () = (if d = peerY c then 1 else 0) + (if d = peerX c then 1 else 0) := by
  rw [owed_eq, bar_unit, bar_unit]
  have h0 : owX d chunks (barCell c) () = 0 := by
    unfold owX owY
    rw [owL_other (fun k => kcell_ne (κ := some (1, k)) (κ' := none) nofun), owL_other (fun k => kcell_ne (κ := some (3, k)) (κ' := none) nofun)]; rfl
  rw [h0, Nat.zero_add, if_congr eq_peerY rfl rfl, if_congr eq_peerX rfl rfl]

theorem no_bar (c p : Dev nD) (jk : Fin 4 × Fin 32) : (tallyAt (barCell p) () 1 : CellTallies nD τ sig Unit) (kcell (c, some jk)) () = 0 := by
  rw [tallyAt_apply, if_neg fun e => kcell_ne (c := c) (c' := p) (κ := some jk) (κ' := none) nofun e.1]

theorem family_injective (c : Dev nD) (j : Fin 4) : Function.Injective fun k : Fin 32 => kcell (c, some (j, k)) := fun k k' h => by
  have h1 := (Prod.mk.inj (kcell_injective h)).2
  exact (Prod.mk.inj (Option.some.inj h1)).2

theorem family_ne {c c' : Dev nD} {j j' : Fin 4} {k : Fin 32} (h : c ≠ c' ∨ j ≠ j') (k' : Fin 32) : kcell (c, some (j, k')) ≠ kcell (c', some (j', k)) := fun e => by
  have h1 := Prod.mk.inj (kcell_injective e)
  have h2 := Prod.mk.inj (Option.some.inj h1.2)
  exact h.elim (fun h => h h1.1) fun h => h h2.1

theorem chunks_all (k : Fin 32) : k ∈ chunks := by revert k; decide
theorem chunks_nodup : chunks.Nodup := by decide

/-- A family's units at one of its cells: all chunks' cells of device `p` are owed, nobody else's. -/
theorem owL_family (c p : Dev nD) (j : Fin 4) (k : Fin 32) (base : CellTallies nD τ sig Unit) :
    owL (fun k => kcell (p, some (j, k))) base chunks (kcell (c, some (j, k))) () = base (kcell (c, some (j, k))) () + (if c = p then N else 0) := by
  by_cases h : c = p
  · subst h
    exact (owL_at (family_injective c j) (k := k) chunks_nodup).trans (by rw [if_pos (chunks_all k), if_pos rfl])
  · rw [owL_other (fun k' => family_ne (Or.inl fun e => h e.symm) k'), if_neg h, Nat.add_zero]

theorem owed_rx (d c : Dev nD) (k : Fin 32) : O₀ d (rxCell c k) () = if d = peerX c then N else 0 := by
  rw [owed_eq, no_bar c _ (1, k), no_bar c _ (1, k), Nat.add_zero]
  refine (owL_family c (peerX d) 1 k _).trans ?_
  have h0 : owY d chunks (rxCell c k) () = 0 := by
    unfold owY; rw [owL_other (fun k' => family_ne (j := 3) (j' := 1) (Or.inr (by decide)) k')]; rfl
  rw [if_congr eq_peerX rfl rfl]
  exact (congrArg (· + _) h0).trans (Nat.zero_add _)

theorem owed_ry (d c : Dev nD) (k : Fin 32) : O₀ d (ryCell c k) () = if d = peerY c then N else 0 := by
  rw [owed_eq, no_bar c _ (3, k), no_bar c _ (3, k), Nat.add_zero]
  unfold owX
  rw [owL_other (fun k' => family_ne (j := 1) (j' := 3) (Or.inr (by decide)) k')]
  refine (owL_family c (peerY d) 3 k 0).trans ?_
  rw [if_congr eq_peerY rfl rfl]
  exact Nat.zero_add _

/-! ## The launch's credits -/

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

theorem launch_bar (c : Dev nD) : tallyOn (barCell c) (launchCredit (Pipeline.owing O₀) 0 (barCell c)) = (tallyAt (barCell c) () 2 : CellTallies nD τ sig Unit) :=
  launch_at _ _ (by
    rw [Finset.sum_congr rfl fun d _ => owed_bar d c, Finset.sum_add_distrib, Finset.sum_ite_eq' Finset.univ (peerY c) fun _ => 1,
      Finset.sum_ite_eq' Finset.univ (peerX c) fun _ => 1, if_pos (Finset.mem_univ _), if_pos (Finset.mem_univ _)])
theorem launch_rx (c : Dev nD) (k : Fin 32) : tallyOn (rxCell c k) (launchCredit (Pipeline.owing O₀) 0 (rxCell c k)) = (tallyAt (rxCell c k) () N : CellTallies nD τ sig Unit) :=
  launch_at _ _ (by
    rw [Finset.sum_congr rfl fun d _ => owed_rx d c k, Finset.sum_ite_eq' Finset.univ (peerX c) fun _ => N, if_pos (Finset.mem_univ _)])
theorem launch_ry (c : Dev nD) (k : Fin 32) : tallyOn (ryCell c k) (launchCredit (Pipeline.owing O₀) 0 (ryCell c k)) = (tallyAt (ryCell c k) () N : CellTallies nD τ sig Unit) :=
  launch_at _ _ (by
    rw [Finset.sum_congr rfl fun d _ => owed_ry d c k, Finset.sum_ite_eq' Finset.univ (peerY c) fun _ => N, if_pos (Finset.mem_univ _)])

theorem creds (c : Dev nD) : (Pipeline.launchCred O₀ c : sProp 𝕄) ⊢ credits c := by
  unfold Pipeline.launchCred
  refine (BI.bigSep_subset (Finset.subset_univ (Finset.univ.map ⟨csem, csem_injective⟩))).trans ?_
  rw [bigSep_map, bigSep_kinds, bigSep_pairs]
  unfold credits
  rw [← launch_bar c, bigSep_congr fun k _ => congrArg (cred : CellTallies nD τ sig Unit → sProp 𝕄) (launch_rx c k).symm,
    bigSep_congr fun k _ => congrArg (cred : CellTallies nD τ sig Unit → sProp 𝕄) (launch_ry c k).symm]
  show (_ : sProp 𝕄) ⊢ _
  iintro ⟨HB, -, HR, -, HY⟩
  isplitl [HB]; · iexact HB
  isplitl [HR]; · iexact HR
  iexact HY

/-! ## The launch's side conditions -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, zeros_eq, unscopedSems0_eq]
  unfold Φ₁ scrPts
  iintro ⟨Hr, Hz, HzB⟩
  isplitl [HzB]; · iexact HzB
  isplitl [Hz]; · iexact Hz
  iexists (landed m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- Every weakly fair execution from any memory with zero counters terminates, and every final state has the windows'
    arrays at their computed contents and every semaphore counter at zero; for any float values. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The input array after the run holds what it held. -/
theorem finalA_x (c : Dev nD) : finalA m c (0 : Fin 2) = m ((c : Thread nD τ).loc main_arg0) :=
  (dats (F := F) m 0 c).arrAt_in (0 : Fin 2) rfl _

end Cert.KernelIdeal.Body

end

end
-- ==== Proof.Value.lean ====
/-
# The value of the run

What every device's result array holds at the end is that device's half of the columns of the sum of the two slices of
the whole array, over the reals with infinities.
-/
module

public import proofs.«01_k».proof.Proof.Whole
public import proofs.«01_k».proof.Proof.Gen.ReferenceIdeal.Run
public import Idealize.ShloMosaic.Lib.Pointwise
public import Idealize.ShloMosaic.Lib.Layout

@[expose] public section

noncomputable section

namespace Cert.KernelIdeal.Body

open Cert.KernelIdeal Cert.KernelIdeal.Gen
open Idealize.ShloMosaic
open Idealize.ShloMosaic.TcCoe
open Idealize.SL.Sem

/-! ## The windows are the whole arrays -/

section
variable {F : FTy → Type} [FloatOps F]
variable (m : (ℓ : Loc nD τ sig) → Buf (Elt F) ℓ)

/-- The staged input is the device's input array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends holding what the body left in the result's staging buffer. -/
theorem finalA_out (c : Dev nD) : finalA m c (1 : Fin 2) = outAt m c := by
  have hz : (fun a => (win0_1.index (0 : Fin 1)) a * main_v1.ty.shape.size a) = fun _ => 0 :=
    funext fun a => by fin_cases a <;> decide
  have hr : (win0_1.blk (0 : Fin 1)).view.read (Elt F) (finalA m c (1 : Fin 2)) = finalA m c (1 : Fin 2) :=
    Memref.read_access_unit_zero (Elt F) main_v1 hz (fun a => by fin_cases a <;> decide) _
  rw [← hr]
  unfold finalA
  rw [show cfg0.N = ((0 : Fin 1) : Fin cfg0.N).val + 1 from rfl, (dats m 0 c).arrAt_succ (1 : Fin 2) (0 : Fin 1),
    show (cfg0.win (1 : Fin 2)).flush (0 : Fin 1) = true from by decide, if_pos rfl]
  exact View.read_write_univ _ _

end

/-! ## The sum over the leading axis -/

variable (X : Cert.ReferenceIdeal.S2x2048x1024.Idx → Elt Ideal .f32)

/-- The reference's value: the sum over the leading axis, from zero. -/
def total : Cert.ReferenceIdeal.S2048x1024.Idx → Elt Ideal .f32 :=
  Host.reduceAdd (F := Ideal) (φ := .f32) X (constant Cert.ReferenceIdeal.S_ .f32 0x00000000#32)
    Cert.ReferenceIdeal.Gen.reducesTo_S2x2048x1024_S2048x1024_d0 Cert.ReferenceIdeal.Gen.h_S_

/-- At an index: the two slices' elements, added. -/
theorem total_apply (j : Cert.ReferenceIdeal.S2048x1024.Idx) :
    total X j = (X (ix3 0 (j 0) (j 1)) + X (ix3 1 (j 0) (j 1)) : EReal) := by
  unfold total
  rw [Host.reduceAdd_apply, Ideal.hostReduceAdd_def]
  refine (Ideal.hostReduceAdd_r3_a0 _ _ _ _).trans ?_
  rw [Fin.sum_univ_two]
  exact (congrArg (· + _) Ideal.ofBits_zero_f32).trans (zero_add _)

/-! ## The kernel's sums -/

variable (m : (ℓ : Loc nD τ sig) → Buf (Elt Ideal) ℓ)

/-- Every device's input is its slice of the whole array: the slice of its first-axis coordinate. -/
def Agree : Prop := ∀ c : Dev nD, m ((c.tc : Thread nD τ).loc main_arg0)
  = Layout.blockN ⟨3, ![1, 2048, 1024]⟩ ⟨3, ![2, 2048, 1024]⟩ (Layout.meshBlock [2, 2] ![[0], [], []] c) X

/-- Which block a dimension cut along the mesh's first axis is for a device. -/
theorem firstAxis (c : Dev nD) : Layout.meshLin [2, 2] c.val [0] = c.val / 2 := by
  revert c; decide

/-- An element of a device's input, in the whole array. -/
theorem xstg_at {X : Cert.ReferenceIdeal.S2x2048x1024.Idx → Elt Ideal .f32} {m : (ℓ : Loc nD τ sig) → Buf (Elt Ideal) ℓ}
    (h : Agree X m) (c : Dev nD) {a : Fin 2} {r : Fin 2048} {q : Fin 1024} (ha : c.val / 2 = a.val) :
    xstg m c (xIx r.val q.val) = X (ix3 a r q) := by
  rw [xstg_eq, h c]
  refine congrArg X (funext fun b => Fin.ext ?_)
  rw [Layout.TilesN.idx_val]
  match b with
  | ⟨0, _⟩ =>
    show Layout.meshLin [2, 2] c.val [0] * 1 + 0 = a.val
    rw [firstAxis]; omega
  | ⟨1, _⟩ =>
    show 0 * 2048 + r.val % 2048 = r.val
    have := r.isLt; omega
  | ⟨2, _⟩ =>
    show 0 * 1024 + q.val % 1024 = q.val
    have := q.isLt; omega

/-- Where a device's result element lies in the whole result. -/
def colIx (c : Dev nD) (y : S2048x512.Idx) : Fin 1024 :=
  ⟨512 * (c.val / 2) + (y 1).val, by have := div_le c; have : (y 1).val < 512 := (y 1).isLt; omega⟩

/-- The sum a device computes is the whole sum there, whichever slice it holds itself. -/
theorem sumAt_eq (h : Agree X m) (c : Dev nD) (y : S2048x512.Idx) :
    sumAt m c y = (X (ix3 0 (y 0) (colIx c y)) + X (ix3 1 (y 0) (colIx c y)) : EReal) := by
  have hp := peerX_div c
  have hd := div_le c
  show HAdd.hAdd (α := EReal) (β := EReal) (γ := EReal) (xstg m c (xIx (y 0 : Fin 2048).val (colIx c y).val))
    (xstg m (peerX c) (xIx (y 0 : Fin 2048).val (colIx c y).val)) = _
  by_cases h0 : c.val / 2 = 0
  · exact congrArg₂ (HAdd.hAdd (α := EReal) (β := EReal) (γ := EReal)) (xstg_at h c (a := 0) (r := y 0) (q := colIx c y) h0)
      (xstg_at h (peerX c) (a := 1) (r := y 0) (q := colIx c y) (by rw [hp, h0]; rfl))
  · exact (congrArg₂ (HAdd.hAdd (α := EReal) (β := EReal) (γ := EReal))
      (xstg_at h c (a := 1) (r := y 0) (q := colIx c y) (by show c.val / 2 = 1; omega))
      (xstg_at h (peerX c) (a := 0) (r := y 0) (q := colIx c y) (by show (peerX c).val / 2 = 0; omega))).trans (add_comm _ _)

/-- A device's result is its half of the columns of the whole sum. -/
theorem outAt_eq (h : Agree X m) (c : Dev nD) :
    outAt m c = Layout.blockN ⟨2, ![2048, 512]⟩ ⟨2, ![2048, 1024]⟩ (Layout.meshBlock [2, 2] ![[], [0]] c) (total X) := by
  funext (y : S2048x512.Idx)
  have hcol : colIx (peerY c) y = colIx c y := Fin.ext (by show 512 * _ + _ = 512 * _ + _; rw [peerY_div])
  have hsum : outAt m c y = (X (ix3 0 (y 0) (colIx c y)) + X (ix3 1 (y 0) (colIx c y)) : EReal) := by
    unfold outAt
    by_cases hy : (y 0).val / 1024 = c.val % 2
    · rw [if_pos hy]; exact sumAt_eq X m h c y
    · rw [if_neg hy]; refine (sumAt_eq X m h (peerY c) y).trans ?_; rw [hcol]
  rw [hsum, Layout.blockN_apply, total_apply]
  have hk : ∀ (t : Layout.TilesN ⟨2, ![2048, 512]⟩ ⟨2, ![2048, 1024]⟩ fun b => Layout.cutSize [2, 2] ((![[], [0]] : Fin 2 → List Nat) b)),
      t.idx (Layout.meshBlock [2, 2] ![[], [0]] c) y = ix2 (y 0) (colIx c y) := fun t => funext fun b => Fin.ext (by
    rw [Layout.TilesN.idx_val]
    match b with
    | ⟨0, _⟩ => show 0 * 2048 + (y 0).val = (y 0).val; omega
    | ⟨1, _⟩ => show Layout.meshLin [2, 2] c.val [0] * 512 + (y 1).val = 512 * (c.val / 2) + (y 1).val; rw [firstAxis]; omega)
  rw [hk]
  rfl

end Cert.KernelIdeal.Body

end

end
-- ==== Proof.lean ====
/-
# The certificate

The five claims about the chunked two-axis all-reduce, assembled: the kernel as it is printed and its ideal reading
both run to the end with the input unchanged and every counter at zero (one proof, for any float values, since the two
texts are one), so does the reference, and over the reals with infinities every device ends holding its half of the
columns of the reference's sum.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem
open Cert.Kernel.Gen Cert.KernelIdeal.Gen
open Cert.KernelIdeal.Body (run_main finalA_x finalA_out outAt_eq total)

/-- The kernel at any float values: the run, read at the input and the counters. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (finalA_x m c), h.2⟩)
    (run_main m ρ)

set_option maxRecDepth 65536 in
/-- The two printed texts have one body, read at any float values; -/
theorem bodies_eq {F : FTy → Type} [FloatOps F] : Cert.Kernel.defs₀ (F := F) = Cert.KernelIdeal.defs₀ (F := F) :=
  congrArg Defs.onTc (funext fun ℓ => funext fun a => match ℓ, a with
    | 0, (t, s) => rfl
    | ⟨_ + 1, h⟩, _ => absurd h (Nat.not_lt.2 (Nat.le_add_left _ _)))

/-- so they have one table of bodies and pipelines. -/
theorem defs_eq {F : FTy → Type} [FloatOps F] : Cert.Kernel.defs (F := F) = Cert.KernelIdeal.defs (F := F) :=
  congrArg (Pipeline.defs (Cert.KernelIdeal.pcfgs (F := F))) bodies_eq

/-- The kernel at the machine's floats. -/
theorem frame_kernel : Cert.quiescent_Kernel := fun m ρ _ => by
  rw [defs_eq]
  exact frame_any (F := Bits) m ρ

/-- The kernel at the ideal values. -/
theorem frame_kernelIdeal : Cert.quiescent_KernelIdeal := fun m ρ _ => frame_any (F := Ideal) m ρ

/-- The reference: two host operations, and no semaphore declared. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was replaced between the kernel and its ideal reading. -/
theorem preserves : Cert.preserves_Kernel_KernelIdeal := trivial

/-- Every device's result is its half of the columns of the reference's result. -/
theorem algebraic : Cert.algebraic_KernelIdeal_ReferenceIdeal := fun m ρ m' ρ' _ hagree =>
  ⟨total (m' (((0 : Dev Cert.ReferenceIdeal.nD).tc : Thread _ Cert.ReferenceIdeal.τ).loc Cert.ReferenceIdeal.main_arg0)),
    (θ_run Cert.KernelIdeal.defs _ _).mono
      (fun _ h c => ⟨(h.1 c (1 : Fin 2)).trans ((finalA_out m c).trans (outAt_eq _ m hagree c)),
        (h.1 c (0 : Fin 2)).trans (finalA_x m c)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
